-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16x512x2048 : Shape := ⟨3, ![16, 512, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S4096x2048 : Shape := ⟨2, ![4096, 2048]⟩
abbrev S2048 : Shape := ⟨1, ![2048]⟩
abbrev S2048x2048 : Shape := ⟨2, ![2048, 2048]⟩
abbrev S16x512x1024 : Shape := ⟨3, ![16, 512, 1024]⟩
abbrev S1x1x1024 : Shape := ⟨3, ![1, 1, 1024]⟩
abbrev S_ : Shape := ⟨0, ![]⟩
abbrev S16x512x1 : Shape := ⟨3, ![16, 512, 1]⟩
abbrev S1x1x1 : Shape := ⟨3, ![1, 1, 1]⟩
abbrev S16 : Shape := ⟨1, ![16]⟩
abbrev S16x1x1 : Shape := ⟨3, ![16, 1, 1]⟩
abbrev S16x512 : Shape := ⟨2, ![16, 512]⟩
abbrev S16x1x512 : Shape := ⟨3, ![16, 1, 512]⟩
abbrev S2x8x128 : Shape := ⟨3, ![2, 8, 128]⟩
abbrev S2x8x512 : Shape := ⟨3, ![2, 8, 512]⟩
abbrev S1x512x2048 : Shape := ⟨3, ![1, 512, 2048]⟩
abbrev S1x1x512 : Shape := ⟨3, ![1, 1, 512]⟩
abbrev S1x8x128 : Shape := ⟨3, ![1, 8, 128]⟩
abbrev S1x8x512 : Shape := ⟨3, ![1, 8, 512]⟩
abbrev S8x512x512 : Shape := ⟨3, ![8, 512, 512]⟩
abbrev S1x512 : Shape := ⟨2, ![1, 512]⟩
abbrev S1x128 : Shape := ⟨2, ![1, 128]⟩
abbrev S8x1 : Shape := ⟨2, ![8, 1]⟩
abbrev S512x512 : Shape := ⟨2, ![512, 512]⟩
abbrev S512x2048 : Shape := ⟨2, ![512, 2048]⟩
abbrev S512x1 : Shape := ⟨2, ![512, 1]⟩
abbrev S1x512x512 : Shape := ⟨3, ![1, 512, 512]⟩
abbrev S8x512 : Shape := ⟨2, ![8, 512]⟩
abbrev S8x128 : Shape := ⟨2, ![8, 128]⟩
abbrev S512 : Shape := ⟨1, ![512]⟩
abbrev S1x1 : Shape := ⟨2, ![1, 1]⟩
abbrev S16x1x128 : Shape := ⟨3, ![16, 1, 128]⟩
abbrev S16x128x4096 : Shape := ⟨3, ![16, 128, 4096]⟩
abbrev S16x256x2048 : Shape := ⟨3, ![16, 256, 2048]⟩
abbrev S1x1x128 : Shape := ⟨3, ![1, 1, 128]⟩
abbrev S1x128x4096 : Shape := ⟨3, ![1, 128, 4096]⟩
abbrev S1x256x2048 : Shape := ⟨3, ![1, 256, 2048]⟩
abbrev S128x1 : Shape := ⟨2, ![128, 1]⟩
abbrev S128x512 : Shape := ⟨2, ![128, 512]⟩
abbrev S128x2048 : Shape := ⟨2, ![128, 2048]⟩
abbrev S128x4096 : Shape := ⟨2, ![128, 4096]⟩
abbrev S256x512 : Shape := ⟨2, ![256, 512]⟩
abbrev S256x2048 : Shape := ⟨2, ![256, 2048]⟩
abbrev S2048x4096 : Shape := ⟨2, ![2048, 4096]⟩
abbrev S1x2048 : Shape := ⟨2, ![1, 2048]⟩
abbrev S512x4096 : Shape := ⟨2, ![512, 4096]⟩
abbrev S16x128x2048 : Shape := ⟨3, ![16, 128, 2048]⟩
abbrev S16x384x2048 : Shape := ⟨3, ![16, 384, 2048]⟩

abbrev nBuf : Space → Nat
  | .hbm => 80
  | .vmem => 31
  | .smem => 0
  | _ => 0

abbrev bufTy : (tb : Table) → Fin (tcTables nBuf tb) → BufTy
  | .hbm, ⟨0, _⟩ => ⟨S16x512x2048, .f32⟩
  | .hbm, ⟨1, _⟩ => ⟨S2048x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S4096x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S16x512x1024, .f32⟩
  | .hbm, ⟨10, _⟩ => ⟨S1x1x1024, .f32⟩
  | .hbm, ⟨11, _⟩ => ⟨S16x512x1024, .f32⟩
  | .hbm, ⟨12, _⟩ => ⟨S16x512x1024, .f32⟩
  | .hbm, ⟨13, _⟩ => ⟨S_, .f32⟩
  | .hbm, ⟨14, _⟩ => ⟨S16x512x1024, .f32⟩
  | .hbm, ⟨15, _⟩ => ⟨S16x512x1024, .f32⟩
  | .hbm, ⟨16, _⟩ => ⟨S16x512x1024, .f32⟩
  | .hbm, ⟨17, _⟩ => ⟨S_, .f32⟩
  | .hbm, ⟨18, _⟩ => ⟨S16x512x1024, .f32⟩
  | .hbm, ⟨19, _⟩ => ⟨S16x512x1024, .f32⟩
  | .hbm, ⟨20, _⟩ => ⟨S16x512x1024, .f32⟩
  | .hbm, ⟨21, _⟩ => ⟨S16x512x1024, .f32⟩
  | .hbm, ⟨22, _⟩ => ⟨S16x512x1, .f32⟩
  | .hbm, ⟨23, _⟩ => ⟨S1x1x1, .f32⟩
  | .hbm, ⟨24, _⟩ => ⟨S16x512x1, .f32⟩
  | .hbm, ⟨25, _⟩ => ⟨S16x512x1, .f32⟩
  | .hbm, ⟨26, _⟩ => ⟨S16x512x1, .f32⟩
  | .hbm, ⟨27, _⟩ => ⟨S16x512x1, .f32⟩
  | .hbm, ⟨28, _⟩ => ⟨S_, .f32⟩
  | .hbm, ⟨29, _⟩ => ⟨S16x512x1, .f32⟩
  | .hbm, ⟨30, _⟩ => ⟨S16x512x1, .f32⟩
  | .hbm, ⟨31, _⟩ => ⟨S_, .f32⟩
  | .hbm, ⟨32, _⟩ => ⟨S16x512x1, .f32⟩
  | .hbm, ⟨33, _⟩ => ⟨S16x512x1, .f32⟩
  | .hbm, ⟨34, _⟩ => ⟨S_, .f32⟩
  | .hbm, ⟨35, _⟩ => ⟨S16, .f32⟩
  | .hbm, ⟨36, _⟩ => ⟨S16x1x1, .f32⟩
  | .hbm, ⟨37, _⟩ => ⟨S_, .f32⟩
  | .hbm, ⟨38, _⟩ => ⟨S16, .f32⟩
  | .hbm, ⟨39, _⟩ => ⟨S16x1x1, .f32⟩
  | .hbm, ⟨40, _⟩ => ⟨S16x1x1, .i1⟩
  | .hbm, ⟨41, _⟩ => ⟨S16x512x1, .f32⟩
  | .hbm, ⟨42, _⟩ => ⟨S16x512x1, .f32⟩
  | .hbm, ⟨43, _⟩ => ⟨S16x1x1, .f32⟩
  | .hbm, ⟨44, _⟩ => ⟨S16x512x1, .f32⟩
  | .hbm, ⟨45, _⟩ => ⟨S16x512x1, .f32⟩
  | .hbm, ⟨46, _⟩ => ⟨S16x512x1, .i1⟩
  | .hbm, ⟨47, _⟩ => ⟨S16x512x1, .f32⟩
  | .hbm, ⟨48, _⟩ => ⟨S16x512, .f32⟩
  | .hbm, ⟨49, _⟩ => ⟨S_, .f32⟩
  | .hbm, ⟨50, _⟩ => ⟨S16x512, .f32⟩
  | .hbm, ⟨51, _⟩ => ⟨S16x512, .f32⟩
  | .hbm, ⟨52, _⟩ => ⟨S16x512x2048, .f32⟩
  | .hbm, ⟨53, _⟩ => ⟨S_, .f32⟩
  | .hbm, ⟨54, _⟩ => ⟨S16x512, .f32⟩
  | .hbm, ⟨55, _⟩ => ⟨S16x512x1, .f32⟩
  | .hbm, ⟨56, _⟩ => ⟨S16x512x1, .f32⟩
  | .hbm, ⟨57, _⟩ => ⟨S_, .f32⟩
  | .hbm, ⟨58, _⟩ => ⟨S16x512x1, .f32⟩
  | .hbm, ⟨59, _⟩ => ⟨S16x512x1, .f32⟩
  | .hbm, ⟨60, _⟩ => ⟨S16x512x2048, .f32⟩
  | .hbm, ⟨61, _⟩ => ⟨S16x512x2048, .f32⟩
  | .hbm, ⟨62, _⟩ => ⟨S16x1x512, .f32⟩
  | .hbm, ⟨63, _⟩ => ⟨S2x8x128, .i32⟩
  | .hbm, ⟨64, _⟩ => ⟨S2x8x128, .i32⟩
  | .hbm, ⟨65, _⟩ => ⟨S2x8x512, .f32⟩
  | .hbm, ⟨66, _⟩ => ⟨S16x1x128, .i32⟩
  | .hbm, ⟨67, _⟩ => ⟨S16x1x128, .i32⟩
  | .hbm, ⟨68, _⟩ => ⟨S16x1x512, .f32⟩
  | .hbm, ⟨69, _⟩ => ⟨S16x128x4096, .f32⟩
  | .hbm, ⟨70, _⟩ => ⟨S16x256x2048, .f32⟩
  | .hbm, ⟨71, _⟩ => ⟨S2048x4096, .f32⟩
  | .hbm, ⟨72, _⟩ => ⟨S2048x4096, .bf16⟩
  | .hbm, ⟨73, _⟩ => ⟨S4096x2048, .bf16⟩
  | .hbm, ⟨74, _⟩ => ⟨S1x2048, .f32⟩
  | .hbm, ⟨75, _⟩ => ⟨S2048x2048, .bf16⟩
  | .hbm, ⟨76, _⟩ => ⟨S1x2048, .f32⟩
  | .hbm, ⟨77, _⟩ => ⟨S2048x2048, .f32⟩
  | .hbm, ⟨78, _⟩ => ⟨S16x128x2048, .f32⟩
  | .hbm, ⟨79, _⟩ => ⟨S16x384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x512, .f32⟩
  | .local _ .vmem, ⟨3, _⟩ => ⟨S1x1x512, .f32⟩
  | .local _ .vmem, ⟨4, _⟩ => ⟨S1x8x128, .i32⟩
  | .local _ .vmem, ⟨5, _⟩ => ⟨S1x8x128, .i32⟩
  | .local _ .vmem, ⟨6, _⟩ => ⟨S1x8x128, .i32⟩
  | .local _ .vmem, ⟨7, _⟩ => ⟨S1x8x128, .i32⟩
  | .local _ .vmem, ⟨8, _⟩ => ⟨S1x8x512, .f32⟩
  | .local _ .vmem, ⟨9, _⟩ => ⟨S1x8x512, .f32⟩
  | .local _ .vmem, ⟨10, _⟩ => ⟨S8x512x512, .f32⟩
  | .local _ .vmem, ⟨11, _⟩ => ⟨S1x512x2048, .f32⟩
  | .local _ .vmem, ⟨12, _⟩ => ⟨S1x512x2048, .f32⟩
  | .local _ .vmem, ⟨13, _⟩ => ⟨S1x1x128, .i32⟩
  | .local _ .vmem, ⟨14, _⟩ => ⟨S1x1x128, .i32⟩
  | .local _ .vmem, ⟨15, _⟩ => ⟨S1x1x128, .i32⟩
  | .local _ .vmem, ⟨16, _⟩ => ⟨S1x1x128, .i32⟩
  | .local _ .vmem, ⟨17, _⟩ => ⟨S1x1x512, .f32⟩
  | .local _ .vmem, ⟨18, _⟩ => ⟨S1x1x512, .f32⟩
  | .local _ .vmem, ⟨19, _⟩ => ⟨S1x128x4096, .f32⟩
  | .local _ .vmem, ⟨20, _⟩ => ⟨S1x128x4096, .f32⟩
  | .local _ .vmem, ⟨21, _⟩ => ⟨S1x256x2048, .f32⟩
  | .local _ .vmem, ⟨22, _⟩ => ⟨S1x256x2048, .f32⟩
  | .local _ .vmem, ⟨23, _⟩ => ⟨S512x4096, .bf16⟩
  | .local _ .vmem, ⟨24, _⟩ => ⟨S512x4096, .bf16⟩
  | .local _ .vmem, ⟨25, _⟩ => ⟨S4096x2048, .bf16⟩
  | .local _ .vmem, ⟨26, _⟩ => ⟨S1x2048, .f32⟩
  | .local _ .vmem, ⟨27, _⟩ => ⟨S2048x2048, .bf16⟩
  | .local _ .vmem, ⟨28, _⟩ => ⟨S1x2048, .f32⟩
  | .local _ .vmem, ⟨29, _⟩ => ⟨S512x2048, .f32⟩
  | .local _ .vmem, ⟨30, _⟩ => ⟨S512x2048, .f32⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![2, 8], ![false, false]⟩

def k0_off1 (i : grid0.Coords) : Fin 3 → Nat :=
  let arg1 : BitVec 32 := BitVec.ofNat 32 (i 1).val
  let v20 : Index := Scalar.indexCast arg1
  let c0_6 : Index := 0#32
  let c0_7 : Index := 0#32
  ![v20.toNat, 0, 0]
def k0_cond1 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32 : BitVec 32 := 0#32
  let v26 : BitVec 1 := Scalar.cmpi .ne v25 c0_i32
  v26

@[reducible] def k0_t1_loop : Scf.Loop 32 :=
  let c0_i32_11 : BitVec 32 := 0#32
  let c128_i32 : BitVec 32 := 128#32
  let v30 : BitVec 32 := Scalar.addi c0_i32_11 c128_i32
  let c1_i32 : BitVec 32 := 1#32
  ⟨c0_i32_11, v30, c1_i32⟩
def k0_mult1 (v61 : BitVec 32) : BitVec 32 :=
  let c3_i32 : BitVec 32 := 3#32
  let v62 : BitVec 32 := Scalar.shrsi v61 c3_i32
  let c3_i32_32 : BitVec 32 := 3#32
  let v63 : BitVec 32 := Scalar.shli v62 c3_i32_32
  v63

def k0_off2 (v61 : BitVec 32) : Fin 3 → Nat :=
  let c0_33 : Index := 0#32
  let c3_i32 : BitVec 32 := 3#32
  let v62 : BitVec 32 := Scalar.shrsi v61 c3_i32
  let c3_i32_32 : BitVec 32 := 3#32
  let v63 : BitVec 32 := Scalar.shli v62 c3_i32_32
  let v64 : BitVec 32 := v63
  let v65 : Index := Scalar.indexCast v64
  let c0_34 : Index := 0#32
  ![0, v65.toNat, 0]
def k0_mult2 (v61 : BitVec 32) : BitVec 32 :=
  let c3_i32_43 : BitVec 32 := 3#32
  let v114 : BitVec 32 := Scalar.shrsi v61 c3_i32_43
  let c3_i32_44 : BitVec 32 := 3#32
  let v115 : BitVec 32 := Scalar.shli v114 c3_i32_44
  v115

def k0_chk1 (i : grid0.Coords) (v61 : BitVec 32) : Prop :=
  (∀ (k0_h1 : k0_cond1 i = 1#1), 8 ∣ (k0_mult1 v61).toNat) ∧
  (∀ (k0_h1 : k0_cond1 i = 1#1), ∀ a, (k0_off2 v61) a + S1x8x512.size a ≤ S8x512x512.size a) ∧
  (∀ (k0_h1 : k0_cond1 i = 1#1), 8 ∣ (k0_mult2 v61).toNat)
theorem k0_mult1_dvd : ∀ (i : grid0.Coords) (v61 : BitVec 32) (k0_hw1 : k0_chk1 i v61), ∀ (k0_h1 : k0_cond1 i = 1#1), 8 ∣ (k0_mult1 v61).toNat := fun i v61 k0_hw1 k0_h1 => k0_hw1.1 k0_h1
theorem k0_off2_inb : ∀ (i : grid0.Coords) (v61 : BitVec 32) (k0_hw1 : k0_chk1 i v61), ∀ (k0_h1 : k0_cond1 i = 1#1), ∀ a, (k0_off2 v61) a + S1x8x512.size a ≤ S8x512x512.size a := fun i v61 k0_hw1 k0_h1 => k0_hw1.2.1 k0_h1
theorem k0_mult2_dvd : ∀ (i : grid0.Coords) (v61 : BitVec 32) (k0_hw1 : k0_chk1 i v61), ∀ (k0_h1 : k0_cond1 i = 1#1), 8 ∣ (k0_mult2 v61).toNat := fun i v61 k0_hw1 k0_h1 => k0_hw1.2.2 k0_h1

def k0_mult3 (v87 : BitVec 32) : BitVec 32 :=
  let c3_i32_51 : BitVec 32 := 3#32
  let v131 : BitVec 32 := Scalar.shrsi v87 c3_i32_51
  let c3_i32_52 : BitVec 32 := 3#32
  let v132 : BitVec 32 := Scalar.shli v131 c3_i32_52
  v132

def k0_off3 (v87 : BitVec 32) : Fin 3 → Nat :=
  let c0_53 : Index := 0#32
  let c3_i32_51 : BitVec 32 := 3#32
  let v131 : BitVec 32 := Scalar.shrsi v87 c3_i32_51
  let c3_i32_52 : BitVec 32 := 3#32
  let v132 : BitVec 32 := Scalar.shli v131 c3_i32_52
  let v133 : BitVec 32 := v132
  let v134 : Index := Scalar.indexCast v133
  let c0_54 : Index := 0#32
  ![0, v134.toNat, 0]

def k0_chk2 (i : grid0.Coords) (v87 : BitVec 32) : Prop :=
  (∀ (k0_h1 : k0_cond1 i = 1#1), 8 ∣ (k0_mult3 v87).toNat) ∧
  (∀ (k0_h1 : k0_cond1 i = 1#1), ∀ a, (k0_off3 v87) a + S1x8x512.size a ≤ S8x512x512.size a)
theorem k0_mult3_dvd : ∀ (i : grid0.Coords) (v87 : BitVec 32) (k0_hw2 : k0_chk2 i v87), ∀ (k0_h1 : k0_cond1 i = 1#1), 8 ∣ (k0_mult3 v87).toNat := fun i v87 k0_hw2 k0_h1 => k0_hw2.1 k0_h1
theorem k0_off3_inb : ∀ (i : grid0.Coords) (v87 : BitVec 32) (k0_hw2 : k0_chk2 i v87), ∀ (k0_h1 : k0_cond1 i = 1#1), ∀ a, (k0_off3 v87) a + S1x8x512.size a ≤ S8x512x512.size a := fun i v87 k0_hw2 k0_h1 => k0_hw2.2 k0_h1

def k0_mult4 (v163 : BitVec 32) : BitVec 32 :=
  let c3_i32_65 : BitVec 32 := 3#32
  let v164 : BitVec 32 := Scalar.shrsi v163 c3_i32_65
  let c3_i32_66 : BitVec 32 := 3#32
  let v165 : BitVec 32 := Scalar.shli v164 c3_i32_66
  v165

def k0_off4 (v163 : BitVec 32) : Fin 3 → Nat :=
  let c1_67 : Index := 1#32
  let c3_i32_65 : BitVec 32 := 3#32
  let v164 : BitVec 32 := Scalar.shrsi v163 c3_i32_65
  let c3_i32_66 : BitVec 32 := 3#32
  let v165 : BitVec 32 := Scalar.shli v164 c3_i32_66
  let v166 : BitVec 32 := v165
  let v167 : Index := Scalar.indexCast v166
  let c0_68 : Index := 0#32
  ![1, v167.toNat, 0]
def k0_mult5 (v163 : BitVec 32) : BitVec 32 :=
  let c3_i32_77 : BitVec 32 := 3#32
  let v216 : BitVec 32 := Scalar.shrsi v163 c3_i32_77
  let c3_i32_78 : BitVec 32 := 3#32
  let v217 : BitVec 32 := Scalar.shli v216 c3_i32_78
  v217

def k0_chk3 (i : grid0.Coords) (v163 : BitVec 32) : Prop :=
  (∀ (k0_h1 : k0_cond1 i = 1#1), 8 ∣ (k0_mult4 v163).toNat) ∧
  (∀ (k0_h1 : k0_cond1 i = 1#1), ∀ a, (k0_off4 v163) a + S1x8x512.size a ≤ S8x512x512.size a) ∧
  (∀ (k0_h1 : k0_cond1 i = 1#1), 8 ∣ (k0_mult5 v163).toNat)
theorem k0_mult4_dvd : ∀ (i : grid0.Coords) (v163 : BitVec 32) (k0_hw3 : k0_chk3 i v163), ∀ (k0_h1 : k0_cond1 i = 1#1), 8 ∣ (k0_mult4 v163).toNat := fun i v163 k0_hw3 k0_h1 => k0_hw3.1 k0_h1
theorem k0_off4_inb : ∀ (i : grid0.Coords) (v163 : BitVec 32) (k0_hw3 : k0_chk3 i v163), ∀ (k0_h1 : k0_cond1 i = 1#1), ∀ a, (k0_off4 v163) a + S1x8x512.size a ≤ S8x512x512.size a := fun i v163 k0_hw3 k0_h1 => k0_hw3.2.1 k0_h1
theorem k0_mult5_dvd : ∀ (i : grid0.Coords) (v163 : BitVec 32) (k0_hw3 : k0_chk3 i v163), ∀ (k0_h1 : k0_cond1 i = 1#1), 8 ∣ (k0_mult5 v163).toNat := fun i v163 k0_hw3 k0_h1 => k0_hw3.2.2 k0_h1

def k0_mult6 (v189 : BitVec 32) : BitVec 32 :=
  let c3_i32_85 : BitVec 32 := 3#32
  let v233 : BitVec 32 := Scalar.shrsi v189 c3_i32_85
  let c3_i32_86 : BitVec 32 := 3#32
  let v234 : BitVec 32 := Scalar.shli v233 c3_i32_86
  v234

def k0_off5 (v189 : BitVec 32) : Fin 3 → Nat :=
  let c1_87 : Index := 1#32
  let c3_i32_85 : BitVec 32 := 3#32
  let v233 : BitVec 32 := Scalar.shrsi v189 c3_i32_85
  let c3_i32_86 : BitVec 32 := 3#32
  let v234 : BitVec 32 := Scalar.shli v233 c3_i32_86
  let v235 : BitVec 32 := v234
  let v236 : Index := Scalar.indexCast v235
  let c0_88 : Index := 0#32
  ![1, v236.toNat, 0]

def k0_chk4 (i : grid0.Coords) (v189 : BitVec 32) : Prop :=
  (∀ (k0_h1 : k0_cond1 i = 1#1), 8 ∣ (k0_mult6 v189).toNat) ∧
  (∀ (k0_h1 : k0_cond1 i = 1#1), ∀ a, (k0_off5 v189) a + S1x8x512.size a ≤ S8x512x512.size a)
theorem k0_mult6_dvd : ∀ (i : grid0.Coords) (v189 : BitVec 32) (k0_hw4 : k0_chk4 i v189), ∀ (k0_h1 : k0_cond1 i = 1#1), 8 ∣ (k0_mult6 v189).toNat := fun i v189 k0_hw4 k0_h1 => k0_hw4.1 k0_h1
theorem k0_off5_inb : ∀ (i : grid0.Coords) (v189 : BitVec 32) (k0_hw4 : k0_chk4 i v189), ∀ (k0_h1 : k0_cond1 i = 1#1), ∀ a, (k0_off5 v189) a + S1x8x512.size a ≤ S8x512x512.size a := fun i v189 k0_hw4 k0_h1 => k0_hw4.2 k0_h1

def k0_mult7 (v265 : BitVec 32) : BitVec 32 :=
  let c3_i32_99 : BitVec 32 := 3#32
  let v266 : BitVec 32 := Scalar.shrsi v265 c3_i32_99
  let c3_i32_100 : BitVec 32 := 3#32
  let v267 : BitVec 32 := Scalar.shli v266 c3_i32_100
  v267

def k0_off6 (v265 : BitVec 32) : Fin 3 → Nat :=
  let c2_101 : Index := 2#32
  let c3_i32_99 : BitVec 32 := 3#32
  let v266 : BitVec 32 := Scalar.shrsi v265 c3_i32_99
  let c3_i32_100 : BitVec 32 := 3#32
  let v267 : BitVec 32 := Scalar.shli v266 c3_i32_100
  let v268 : BitVec 32 := v267
  let v269 : Index := Scalar.indexCast v268
  let c0_102 : Index := 0#32
  ![2, v269.toNat, 0]
def k0_mult8 (v265 : BitVec 32) : BitVec 32 :=
  let c3_i32_110 : BitVec 32 := 3#32
  let v318 : BitVec 32 := Scalar.shrsi v265 c3_i32_110
  let c3_i32_111 : BitVec 32 := 3#32
  let v319 : BitVec 32 := Scalar.shli v318 c3_i32_111
  v319

def k0_chk5 (i : grid0.Coords) (v265 : BitVec 32) : Prop :=
  (∀ (k0_h1 : k0_cond1 i = 1#1), 8 ∣ (k0_mult7 v265).toNat) ∧
  (∀ (k0_h1 : k0_cond1 i = 1#1), ∀ a, (k0_off6 v265) a + S1x8x512.size a ≤ S8x512x512.size a) ∧
  (∀ (k0_h1 : k0_cond1 i = 1#1), 8 ∣ (k0_mult8 v265).toNat)
theorem k0_mult7_dvd : ∀ (i : grid0.Coords) (v265 : BitVec 32) (k0_hw5 : k0_chk5 i v265), ∀ (k0_h1 : k0_cond1 i = 1#1), 8 ∣ (k0_mult7 v265).toNat := fun i v265 k0_hw5 k0_h1 => k0_hw5.1 k0_h1
theorem k0_off6_inb : ∀ (i : grid0.Coords) (v265 : BitVec 32) (k0_hw5 : k0_chk5 i v265), ∀ (k0_h1 : k0_cond1 i = 1#1), ∀ a, (k0_off6 v265) a + S1x8x512.size a ≤ S8x512x512.size a := fun i v265 k0_hw5 k0_h1 => k0_hw5.2.1 k0_h1
theorem k0_mult8_dvd : ∀ (i : grid0.Coords) (v265 : BitVec 32) (k0_hw5 : k0_chk5 i v265), ∀ (k0_h1 : k0_cond1 i = 1#1), 8 ∣ (k0_mult8 v265).toNat := fun i v265 k0_hw5 k0_h1 => k0_hw5.2.2 k0_h1

def k0_mult9 (v291 : BitVec 32) : BitVec 32 :=
  let c3_i32_118 : BitVec 32 := 3#32
  let v335 : BitVec 32 := Scalar.shrsi v291 c3_i32_118
  let c3_i32_119 : BitVec 32 := 3#32
  let v336 : BitVec 32 := Scalar.shli v335 c3_i32_119
  v336

def k0_off7 (v291 : BitVec 32) : Fin 3 → Nat :=
  let c2_120 : Index := 2#32
  let c3_i32_118 : BitVec 32 := 3#32
  let v335 : BitVec 32 := Scalar.shrsi v291 c3_i32_118
  let c3_i32_119 : BitVec 32 := 3#32
  let v336 : BitVec 32 := Scalar.shli v335 c3_i32_119
  let v337 : BitVec 32 := v336
  let v338 : Index := Scalar.indexCast v337
  let c0_121 : Index := 0#32
  ![2, v338.toNat, 0]

def k0_chk6 (i : grid0.Coords) (v291 : BitVec 32) : Prop :=
  (∀ (k0_h1 : k0_cond1 i = 1#1), 8 ∣ (k0_mult9 v291).toNat) ∧
  (∀ (k0_h1 : k0_cond1 i = 1#1), ∀ a, (k0_off7 v291) a + S1x8x512.size a ≤ S8x512x512.size a)
theorem k0_mult9_dvd : ∀ (i : grid0.Coords) (v291 : BitVec 32) (k0_hw6 : k0_chk6 i v291), ∀ (k0_h1 : k0_cond1 i = 1#1), 8 ∣ (k0_mult9 v291).toNat := fun i v291 k0_hw6 k0_h1 => k0_hw6.1 k0_h1
theorem k0_off7_inb : ∀ (i : grid0.Coords) (v291 : BitVec 32) (k0_hw6 : k0_chk6 i v291), ∀ (k0_h1 : k0_cond1 i = 1#1), ∀ a, (k0_off7 v291) a + S1x8x512.size a ≤ S8x512x512.size a := fun i v291 k0_hw6 k0_h1 => k0_hw6.2 k0_h1

def k0_mult10 (v367 : BitVec 32) : BitVec 32 :=
  let c3_i32_132 : BitVec 32 := 3#32
  let v368 : BitVec 32 := Scalar.shrsi v367 c3_i32_132
  let c3_i32_133 : BitVec 32 := 3#32
  let v369 : BitVec 32 := Scalar.shli v368 c3_i32_133
  v369

def k0_off8 (v367 : BitVec 32) : Fin 3 → Nat :=
  let c3_134 : Index := 3#32
  let c3_i32_132 : BitVec 32 := 3#32
  let v368 : BitVec 32 := Scalar.shrsi v367 c3_i32_132
  let c3_i32_133 : BitVec 32 := 3#32
  let v369 : BitVec 32 := Scalar.shli v368 c3_i32_133
  let v370 : BitVec 32 := v369
  let v371 : Index := Scalar.indexCast v370
  let c0_135 : Index := 0#32
  ![3, v371.toNat, 0]
def k0_mult11 (v367 : BitVec 32) : BitVec 32 :=
  let c3_i32_144 : BitVec 32 := 3#32
  let v420 : BitVec 32 := Scalar.shrsi v367 c3_i32_144
  let c3_i32_145 : BitVec 32 := 3#32
  let v421 : BitVec 32 := Scalar.shli v420 c3_i32_145
  v421

def k0_chk7 (i : grid0.Coords) (v367 : BitVec 32) : Prop :=
  (∀ (k0_h1 : k0_cond1 i = 1#1), 8 ∣ (k0_mult10 v367).toNat) ∧
  (∀ (k0_h1 : k0_cond1 i = 1#1), ∀ a, (k0_off8 v367) a + S1x8x512.size a ≤ S8x512x512.size a) ∧
  (∀ (k0_h1 : k0_cond1 i = 1#1), 8 ∣ (k0_mult11 v367).toNat)
theorem k0_mult10_dvd : ∀ (i : grid0.Coords) (v367 : BitVec 32) (k0_hw7 : k0_chk7 i v367), ∀ (k0_h1 : k0_cond1 i = 1#1), 8 ∣ (k0_mult10 v367).toNat := fun i v367 k0_hw7 k0_h1 => k0_hw7.1 k0_h1
theorem k0_off8_inb : ∀ (i : grid0.Coords) (v367 : BitVec 32) (k0_hw7 : k0_chk7 i v367), ∀ (k0_h1 : k0_cond1 i = 1#1), ∀ a, (k0_off8 v367) a + S1x8x512.size a ≤ S8x512x512.size a := fun i v367 k0_hw7 k0_h1 => k0_hw7.2.1 k0_h1
theorem k0_mult11_dvd : ∀ (i : grid0.Coords) (v367 : BitVec 32) (k0_hw7 : k0_chk7 i v367), ∀ (k0_h1 : k0_cond1 i = 1#1), 8 ∣ (k0_mult11 v367).toNat := fun i v367 k0_hw7 k0_h1 => k0_hw7.2.2 k0_h1

def k0_mult12 (v393 : BitVec 32) : BitVec 32 :=
  let c3_i32_152 : BitVec 32 := 3#32
  let v437 : BitVec 32 := Scalar.shrsi v393 c3_i32_152
  let c3_i32_153 : BitVec 32 := 3#32
  let v438 : BitVec 32 := Scalar.shli v437 c3_i32_153
  v438

def k0_off9 (v393 : BitVec 32) : Fin 3 → Nat :=
  let c3_154 : Index := 3#32
  let c3_i32_152 : BitVec 32 := 3#32
  let v437 : BitVec 32 := Scalar.shrsi v393 c3_i32_152
  let c3_i32_153 : BitVec 32 := 3#32
  let v438 : BitVec 32 := Scalar.shli v437 c3_i32_153
  let v439 : BitVec 32 := v438
  let v440 : Index := Scalar.indexCast v439
  let c0_155 : Index := 0#32
  ![3, v440.toNat, 0]

def k0_chk8 (i : grid0.Coords) (v393 : BitVec 32) : Prop :=
  (∀ (k0_h1 : k0_cond1 i = 1#1), 8 ∣ (k0_mult12 v393).toNat) ∧
  (∀ (k0_h1 : k0_cond1 i = 1#1), ∀ a, (k0_off9 v393) a + S1x8x512.size a ≤ S8x512x512.size a)
theorem k0_mult12_dvd : ∀ (i : grid0.Coords) (v393 : BitVec 32) (k0_hw8 : k0_chk8 i v393), ∀ (k0_h1 : k0_cond1 i = 1#1), 8 ∣ (k0_mult12 v393).toNat := fun i v393 k0_hw8 k0_h1 => k0_hw8.1 k0_h1
theorem k0_off9_inb : ∀ (i : grid0.Coords) (v393 : BitVec 32) (k0_hw8 : k0_chk8 i v393), ∀ (k0_h1 : k0_cond1 i = 1#1), ∀ a, (k0_off9 v393) a + S1x8x512.size a ≤ S8x512x512.size a := fun i v393 k0_hw8 k0_h1 => k0_hw8.2 k0_h1

def k0_mult13 (v469 : BitVec 32) : BitVec 32 :=
  let c3_i32_166 : BitVec 32 := 3#32
  let v470 : BitVec 32 := Scalar.shrsi v469 c3_i32_166
  let c3_i32_167 : BitVec 32 := 3#32
  let v471 : BitVec 32 := Scalar.shli v470 c3_i32_167
  v471

def k0_off10 (v469 : BitVec 32) : Fin 3 → Nat :=
  let c4_168 : Index := 4#32
  let c3_i32_166 : BitVec 32 := 3#32
  let v470 : BitVec 32 := Scalar.shrsi v469 c3_i32_166
  let c3_i32_167 : BitVec 32 := 3#32
  let v471 : BitVec 32 := Scalar.shli v470 c3_i32_167
  let v472 : BitVec 32 := v471
  let v473 : Index := Scalar.indexCast v472
  let c0_169 : Index := 0#32
  ![4, v473.toNat, 0]
def k0_mult14 (v469 : BitVec 32) : BitVec 32 :=
  let c3_i32_177 : BitVec 32 := 3#32
  let v522 : BitVec 32 := Scalar.shrsi v469 c3_i32_177
  let c3_i32_178 : BitVec 32 := 3#32
  let v523 : BitVec 32 := Scalar.shli v522 c3_i32_178
  v523

def k0_chk9 (i : grid0.Coords) (v469 : BitVec 32) : Prop :=
  (∀ (k0_h1 : k0_cond1 i = 1#1), 8 ∣ (k0_mult13 v469).toNat) ∧
  (∀ (k0_h1 : k0_cond1 i = 1#1), ∀ a, (k0_off10 v469) a + S1x8x512.size a ≤ S8x512x512.size a) ∧
  (∀ (k0_h1 : k0_cond1 i = 1#1), 8 ∣ (k0_mult14 v469).toNat)
theorem k0_mult13_dvd : ∀ (i : grid0.Coords) (v469 : BitVec 32) (k0_hw9 : k0_chk9 i v469), ∀ (k0_h1 : k0_cond1 i = 1#1), 8 ∣ (k0_mult13 v469).toNat := fun i v469 k0_hw9 k0_h1 => k0_hw9.1 k0_h1
theorem k0_off10_inb : ∀ (i : grid0.Coords) (v469 : BitVec 32) (k0_hw9 : k0_chk9 i v469), ∀ (k0_h1 : k0_cond1 i = 1#1), ∀ a, (k0_off10 v469) a + S1x8x512.size a ≤ S8x512x512.size a := fun i v469 k0_hw9 k0_h1 => k0_hw9.2.1 k0_h1
theorem k0_mult14_dvd : ∀ (i : grid0.Coords) (v469 : BitVec 32) (k0_hw9 : k0_chk9 i v469), ∀ (k0_h1 : k0_cond1 i = 1#1), 8 ∣ (k0_mult14 v469).toNat := fun i v469 k0_hw9 k0_h1 => k0_hw9.2.2 k0_h1

def k0_mult15 (v495 : BitVec 32) : BitVec 32 :=
  let c3_i32_185 : BitVec 32 := 3#32
  let v539 : BitVec 32 := Scalar.shrsi v495 c3_i32_185
  let c3_i32_186 : BitVec 32 := 3#32
  let v540 : BitVec 32 := Scalar.shli v539 c3_i32_186
  v540

def k0_off11 (v495 : BitVec 32) : Fin 3 → Nat :=
  let c4_187 : Index := 4#32
  let c3_i32_185 : BitVec 32 := 3#32
  let v539 : BitVec 32 := Scalar.shrsi v495 c3_i32_185
  let c3_i32_186 : BitVec 32 := 3#32
  let v540 : BitVec 32 := Scalar.shli v539 c3_i32_186
  let v541 : BitVec 32 := v540
  let v542 : Index := Scalar.indexCast v541
  let c0_188 : Index := 0#32
  ![4, v542.toNat, 0]

def k0_chk10 (i : grid0.Coords) (v495 : BitVec 32) : Prop :=
  (∀ (k0_h1 : k0_cond1 i = 1#1), 8 ∣ (k0_mult15 v495).toNat) ∧
  (∀ (k0_h1 : k0_cond1 i = 1#1), ∀ a, (k0_off11 v495) a + S1x8x512.size a ≤ S8x512x512.size a)
theorem k0_mult15_dvd : ∀ (i : grid0.Coords) (v495 : BitVec 32) (k0_hw10 : k0_chk10 i v495), ∀ (k0_h1 : k0_cond1 i = 1#1), 8 ∣ (k0_mult15 v495).toNat := fun i v495 k0_hw10 k0_h1 => k0_hw10.1 k0_h1
theorem k0_off11_inb : ∀ (i : grid0.Coords) (v495 : BitVec 32) (k0_hw10 : k0_chk10 i v495), ∀ (k0_h1 : k0_cond1 i = 1#1), ∀ a, (k0_off11 v495) a + S1x8x512.size a ≤ S8x512x512.size a := fun i v495 k0_hw10 k0_h1 => k0_hw10.2 k0_h1

def k0_mult16 (v571 : BitVec 32) : BitVec 32 :=
  let c3_i32_199 : BitVec 32 := 3#32
  let v572 : BitVec 32 := Scalar.shrsi v571 c3_i32_199
  let c3_i32_200 : BitVec 32 := 3#32
  let v573 : BitVec 32 := Scalar.shli v572 c3_i32_200
  v573

def k0_off12 (v571 : BitVec 32) : Fin 3 → Nat :=
  let c5_201 : Index := 5#32
  let c3_i32_199 : BitVec 32 := 3#32
  let v572 : BitVec 32 := Scalar.shrsi v571 c3_i32_199
  let c3_i32_200 : BitVec 32 := 3#32
  let v573 : BitVec 32 := Scalar.shli v572 c3_i32_200
  let v574 : BitVec 32 := v573
  let v575 : Index := Scalar.indexCast v574
  let c0_202 : Index := 0#32
  ![5, v575.toNat, 0]
def k0_mult17 (v571 : BitVec 32) : BitVec 32 :=
  let c3_i32_210 : BitVec 32 := 3#32
  let v624 : BitVec 32 := Scalar.shrsi v571 c3_i32_210
  let c3_i32_211 : BitVec 32 := 3#32
  let v625 : BitVec 32 := Scalar.shli v624 c3_i32_211
  v625

def k0_chk11 (i : grid0.Coords) (v571 : BitVec 32) : Prop :=
  (∀ (k0_h1 : k0_cond1 i = 1#1), 8 ∣ (k0_mult16 v571).toNat) ∧
  (∀ (k0_h1 : k0_cond1 i = 1#1), ∀ a, (k0_off12 v571) a + S1x8x512.size a ≤ S8x512x512.size a) ∧
  (∀ (k0_h1 : k0_cond1 i = 1#1), 8 ∣ (k0_mult17 v571).toNat)
theorem k0_mult16_dvd : ∀ (i : grid0.Coords) (v571 : BitVec 32) (k0_hw11 : k0_chk11 i v571), ∀ (k0_h1 : k0_cond1 i = 1#1), 8 ∣ (k0_mult16 v571).toNat := fun i v571 k0_hw11 k0_h1 => k0_hw11.1 k0_h1
theorem k0_off12_inb : ∀ (i : grid0.Coords) (v571 : BitVec 32) (k0_hw11 : k0_chk11 i v571), ∀ (k0_h1 : k0_cond1 i = 1#1), ∀ a, (k0_off12 v571) a + S1x8x512.size a ≤ S8x512x512.size a := fun i v571 k0_hw11 k0_h1 => k0_hw11.2.1 k0_h1
theorem k0_mult17_dvd : ∀ (i : grid0.Coords) (v571 : BitVec 32) (k0_hw11 : k0_chk11 i v571), ∀ (k0_h1 : k0_cond1 i = 1#1), 8 ∣ (k0_mult17 v571).toNat := fun i v571 k0_hw11 k0_h1 => k0_hw11.2.2 k0_h1

def k0_mult18 (v597 : BitVec 32) : BitVec 32 :=
  let c3_i32_218 : BitVec 32 := 3#32
  let v641 : BitVec 32 := Scalar.shrsi v597 c3_i32_218
  let c3_i32_219 : BitVec 32 := 3#32
  let v642 : BitVec 32 := Scalar.shli v641 c3_i32_219
  v642

def k0_off13 (v597 : BitVec 32) : Fin 3 → Nat :=
  let c5_220 : Index := 5#32
  let c3_i32_218 : BitVec 32 := 3#32
  let v641 : BitVec 32 := Scalar.shrsi v597 c3_i32_218
  let c3_i32_219 : BitVec 32 := 3#32
  let v642 : BitVec 32 := Scalar.shli v641 c3_i32_219
  let v643 : BitVec 32 := v642
  let v644 : Index := Scalar.indexCast v643
  let c0_221 : Index := 0#32
  ![5, v644.toNat, 0]

def k0_chk12 (i : grid0.Coords) (v597 : BitVec 32) : Prop :=
  (∀ (k0_h1 : k0_cond1 i = 1#1), 8 ∣ (k0_mult18 v597).toNat) ∧
  (∀ (k0_h1 : k0_cond1 i = 1#1), ∀ a, (k0_off13 v597) a + S1x8x512.size a ≤ S8x512x512.size a)
theorem k0_mult18_dvd : ∀ (i : grid0.Coords) (v597 : BitVec 32) (k0_hw12 : k0_chk12 i v597), ∀ (k0_h1 : k0_cond1 i = 1#1), 8 ∣ (k0_mult18 v597).toNat := fun i v597 k0_hw12 k0_h1 => k0_hw12.1 k0_h1
theorem k0_off13_inb : ∀ (i : grid0.Coords) (v597 : BitVec 32) (k0_hw12 : k0_chk12 i v597), ∀ (k0_h1 : k0_cond1 i = 1#1), ∀ a, (k0_off13 v597) a + S1x8x512.size a ≤ S8x512x512.size a := fun i v597 k0_hw12 k0_h1 => k0_hw12.2 k0_h1

def k0_mult19 (v673 : BitVec 32) : BitVec 32 :=
  let c3_i32_232 : BitVec 32 := 3#32
  let v674 : BitVec 32 := Scalar.shrsi v673 c3_i32_232
  let c3_i32_233 : BitVec 32 := 3#32
  let v675 : BitVec 32 := Scalar.shli v674 c3_i32_233
  v675

def k0_off14 (v673 : BitVec 32) : Fin 3 → Nat :=
  let c6_234 : Index := 6#32
  let c3_i32_232 : BitVec 32 := 3#32
  let v674 : BitVec 32 := Scalar.shrsi v673 c3_i32_232
  let c3_i32_233 : BitVec 32 := 3#32
  let v675 : BitVec 32 := Scalar.shli v674 c3_i32_233
  let v676 : BitVec 32 := v675
  let v677 : Index := Scalar.indexCast v676
  let c0_235 : Index := 0#32
  ![6, v677.toNat, 0]
def k0_mult20 (v673 : BitVec 32) : BitVec 32 :=
  let c3_i32_243 : BitVec 32 := 3#32
  let v726 : BitVec 32 := Scalar.shrsi v673 c3_i32_243
  let c3_i32_244 : BitVec 32 := 3#32
  let v727 : BitVec 32 := Scalar.shli v726 c3_i32_244
  v727

def k0_chk13 (i : grid0.Coords) (v673 : BitVec 32) : Prop :=
  (∀ (k0_h1 : k0_cond1 i = 1#1), 8 ∣ (k0_mult19 v673).toNat) ∧
  (∀ (k0_h1 : k0_cond1 i = 1#1), ∀ a, (k0_off14 v673) a + S1x8x512.size a ≤ S8x512x512.size a) ∧
  (∀ (k0_h1 : k0_cond1 i = 1#1), 8 ∣ (k0_mult20 v673).toNat)
theorem k0_mult19_dvd : ∀ (i : grid0.Coords) (v673 : BitVec 32) (k0_hw13 : k0_chk13 i v673), ∀ (k0_h1 : k0_cond1 i = 1#1), 8 ∣ (k0_mult19 v673).toNat := fun i v673 k0_hw13 k0_h1 => k0_hw13.1 k0_h1
theorem k0_off14_inb : ∀ (i : grid0.Coords) (v673 : BitVec 32) (k0_hw13 : k0_chk13 i v673), ∀ (k0_h1 : k0_cond1 i = 1#1), ∀ a, (k0_off14 v673) a + S1x8x512.size a ≤ S8x512x512.size a := fun i v673 k0_hw13 k0_h1 => k0_hw13.2.1 k0_h1
theorem k0_mult20_dvd : ∀ (i : grid0.Coords) (v673 : BitVec 32) (k0_hw13 : k0_chk13 i v673), ∀ (k0_h1 : k0_cond1 i = 1#1), 8 ∣ (k0_mult20 v673).toNat := fun i v673 k0_hw13 k0_h1 => k0_hw13.2.2 k0_h1

def k0_mult21 (v699 : BitVec 32) : BitVec 32 :=
  let c3_i32_251 : BitVec 32 := 3#32
  let v743 : BitVec 32 := Scalar.shrsi v699 c3_i32_251
  let c3_i32_252 : BitVec 32 := 3#32
  let v744 : BitVec 32 := Scalar.shli v743 c3_i32_252
  v744

def k0_off15 (v699 : BitVec 32) : Fin 3 → Nat :=
  let c6_253 : Index := 6#32
  let c3_i32_251 : BitVec 32 := 3#32
  let v743 : BitVec 32 := Scalar.shrsi v699 c3_i32_251
  let c3_i32_252 : BitVec 32 := 3#32
  let v744 : BitVec 32 := Scalar.shli v743 c3_i32_252
  let v745 : BitVec 32 := v744
  let v746 : Index := Scalar.indexCast v745
  let c0_254 : Index := 0#32
  ![6, v746.toNat, 0]

def k0_chk14 (i : grid0.Coords) (v699 : BitVec 32) : Prop :=
  (∀ (k0_h1 : k0_cond1 i = 1#1), 8 ∣ (k0_mult21 v699).toNat) ∧
  (∀ (k0_h1 : k0_cond1 i = 1#1), ∀ a, (k0_off15 v699) a + S1x8x512.size a ≤ S8x512x512.size a)
theorem k0_mult21_dvd : ∀ (i : grid0.Coords) (v699 : BitVec 32) (k0_hw14 : k0_chk14 i v699), ∀ (k0_h1 : k0_cond1 i = 1#1), 8 ∣ (k0_mult21 v699).toNat := fun i v699 k0_hw14 k0_h1 => k0_hw14.1 k0_h1
theorem k0_off15_inb : ∀ (i : grid0.Coords) (v699 : BitVec 32) (k0_hw14 : k0_chk14 i v699), ∀ (k0_h1 : k0_cond1 i = 1#1), ∀ a, (k0_off15 v699) a + S1x8x512.size a ≤ S8x512x512.size a := fun i v699 k0_hw14 k0_h1 => k0_hw14.2 k0_h1

def k0_mult22 (v775 : BitVec 32) : BitVec 32 :=
  let c3_i32_265 : BitVec 32 := 3#32
  let v776 : BitVec 32 := Scalar.shrsi v775 c3_i32_265
  let c3_i32_266 : BitVec 32 := 3#32
  let v777 : BitVec 32 := Scalar.shli v776 c3_i32_266
  v777

def k0_off16 (v775 : BitVec 32) : Fin 3 → Nat :=
  let c7_267 : Index := 7#32
  let c3_i32_265 : BitVec 32 := 3#32
  let v776 : BitVec 32 := Scalar.shrsi v775 c3_i32_265
  let c3_i32_266 : BitVec 32 := 3#32
  let v777 : BitVec 32 := Scalar.shli v776 c3_i32_266
  let v778 : BitVec 32 := v777
  let v779 : Index := Scalar.indexCast v778
  let c0_268 : Index := 0#32
  ![7, v779.toNat, 0]
def k0_mult23 (v775 : BitVec 32) : BitVec 32 :=
  let c3_i32_277 : BitVec 32 := 3#32
  let v828 : BitVec 32 := Scalar.shrsi v775 c3_i32_277
  let c3_i32_278 : BitVec 32 := 3#32
  let v829 : BitVec 32 := Scalar.shli v828 c3_i32_278
  v829

def k0_chk15 (i : grid0.Coords) (v775 : BitVec 32) : Prop :=
  (∀ (k0_h1 : k0_cond1 i = 1#1), 8 ∣ (k0_mult22 v775).toNat) ∧
  (∀ (k0_h1 : k0_cond1 i = 1#1), ∀ a, (k0_off16 v775) a + S1x8x512.size a ≤ S8x512x512.size a) ∧
  (∀ (k0_h1 : k0_cond1 i = 1#1), 8 ∣ (k0_mult23 v775).toNat)
theorem k0_mult22_dvd : ∀ (i : grid0.Coords) (v775 : BitVec 32) (k0_hw15 : k0_chk15 i v775), ∀ (k0_h1 : k0_cond1 i = 1#1), 8 ∣ (k0_mult22 v775).toNat := fun i v775 k0_hw15 k0_h1 => k0_hw15.1 k0_h1
theorem k0_off16_inb : ∀ (i : grid0.Coords) (v775 : BitVec 32) (k0_hw15 : k0_chk15 i v775), ∀ (k0_h1 : k0_cond1 i = 1#1), ∀ a, (k0_off16 v775) a + S1x8x512.size a ≤ S8x512x512.size a := fun i v775 k0_hw15 k0_h1 => k0_hw15.2.1 k0_h1
theorem k0_mult23_dvd : ∀ (i : grid0.Coords) (v775 : BitVec 32) (k0_hw15 : k0_chk15 i v775), ∀ (k0_h1 : k0_cond1 i = 1#1), 8 ∣ (k0_mult23 v775).toNat := fun i v775 k0_hw15 k0_h1 => k0_hw15.2.2 k0_h1

def k0_mult24 (v801 : BitVec 32) : BitVec 32 :=
  let c3_i32_285 : BitVec 32 := 3#32
  let v845 : BitVec 32 := Scalar.shrsi v801 c3_i32_285
  let c3_i32_286 : BitVec 32 := 3#32
  let v846 : BitVec 32 := Scalar.shli v845 c3_i32_286
  v846

def k0_off17 (v801 : BitVec 32) : Fin 3 → Nat :=
  let c7_287 : Index := 7#32
  let c3_i32_285 : BitVec 32 := 3#32
  let v845 : BitVec 32 := Scalar.shrsi v801 c3_i32_285
  let c3_i32_286 : BitVec 32 := 3#32
  let v846 : BitVec 32 := Scalar.shli v845 c3_i32_286
  let v847 : BitVec 32 := v846
  let v848 : Index := Scalar.indexCast v847
  let c0_288 : Index := 0#32
  ![7, v848.toNat, 0]

def k0_chk16 (i : grid0.Coords) (v801 : BitVec 32) : Prop :=
  (∀ (k0_h1 : k0_cond1 i = 1#1), 8 ∣ (k0_mult24 v801).toNat) ∧
  (∀ (k0_h1 : k0_cond1 i = 1#1), ∀ a, (k0_off17 v801) a + S1x8x512.size a ≤ S8x512x512.size a)
theorem k0_mult24_dvd : ∀ (i : grid0.Coords) (v801 : BitVec 32) (k0_hw16 : k0_chk16 i v801), ∀ (k0_h1 : k0_cond1 i = 1#1), 8 ∣ (k0_mult24 v801).toNat := fun i v801 k0_hw16 k0_h1 => k0_hw16.1 k0_h1
theorem k0_off17_inb : ∀ (i : grid0.Coords) (v801 : BitVec 32) (k0_hw16 : k0_chk16 i v801), ∀ (k0_h1 : k0_cond1 i = 1#1), ∀ a, (k0_off17 v801) a + S1x8x512.size a ≤ S8x512x512.size a := fun i v801 k0_hw16 k0_h1 => k0_hw16.2 k0_h1

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S16x512x2048 : Shape := ⟨3, ![16, 512, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S4096x2048 : Shape := ⟨2, ![4096, 2048]⟩
abbrev S2048 : Shape := ⟨1, ![2048]⟩
abbrev S2048x2048 : Shape := ⟨2, ![2048, 2048]⟩
abbrev S16x512x1024 : Shape := ⟨3, ![16, 512, 1024]⟩
abbrev S1x1x1024 : Shape := ⟨3, ![1, 1, 1024]⟩
abbrev S_ : Shape := ⟨0, ![]⟩
abbrev S16x512x1 : Shape := ⟨3, ![16, 512, 1]⟩
abbrev S1x1x1 : Shape := ⟨3, ![1, 1, 1]⟩
abbrev S16 : Shape := ⟨1, ![16]⟩
abbrev S16x1x1 : Shape := ⟨3, ![16, 1, 1]⟩
abbrev S16x512 : Shape := ⟨2, ![16, 512]⟩
abbrev S16x512x512 : Shape := ⟨3, ![16, 512, 512]⟩
abbrev S512x512 : Shape := ⟨2, ![512, 512]⟩
abbrev S1x512x512 : Shape := ⟨3, ![1, 512, 512]⟩
abbrev S16x1x512 : Shape := ⟨3, ![16, 1, 512]⟩
abbrev S512 : Shape := ⟨1, ![512]⟩
abbrev S128 : Shape := ⟨1, ![128]⟩
abbrev S16x128 : Shape := ⟨2, ![16, 128]⟩
abbrev S262144 : Shape := ⟨1, ![262144]⟩
abbrev S16x262144 : Shape := ⟨2, ![16, 262144]⟩
abbrev S16x1 : Shape := ⟨2, ![16, 1]⟩
abbrev S1x512 : Shape := ⟨2, ![1, 512]⟩
abbrev S16x128x1 : Shape := ⟨3, ![16, 128, 1]⟩
abbrev S16x128x2048 : Shape := ⟨3, ![16, 128, 2048]⟩
abbrev S16x128x4096 : Shape := ⟨3, ![16, 128, 4096]⟩
abbrev S1x1x2048 : Shape := ⟨3, ![1, 1, 2048]⟩
abbrev S16x256 : Shape := ⟨2, ![16, 256]⟩
abbrev S16x256x1 : Shape := ⟨3, ![16, 256, 1]⟩
abbrev S16x256x2048 : Shape := ⟨3, ![16, 256, 2048]⟩
abbrev S16x384x2048 : Shape := ⟨3, ![16, 384, 2048]⟩

abbrev nBuf : Space → Nat
  | .hbm => 214
  | .vmem => 0
  | .smem => 0
  | _ => 0

abbrev hbmTy0_0 (i : Nat) : BufTy := match i % 128 with
  | 0 => ⟨S16x512x2048, .f32⟩
  | 1 => ⟨S2048x1024, .f32⟩
  | 2 => ⟨S1024, .f32⟩
  | 3 => ⟨S1024x1, .f32⟩
  | 4 => ⟨S1, .f32⟩
  | 5 => ⟨S4096x2048, .f32⟩
  | 6 => ⟨S2048, .f32⟩
  | 7 => ⟨S2048x2048, .f32⟩
  | 8 => ⟨S2048, .f32⟩
  | 9 => ⟨S16x512x1024, .f32⟩
  | 10 => ⟨S1x1x1024, .f32⟩
  | 11 => ⟨S16x512x1024, .f32⟩
  | 12 => ⟨S16x512x1024, .f32⟩
  | 13 => ⟨S_, .f32⟩
  | 14 => ⟨S16x512x1024, .f32⟩
  | 15 => ⟨S16x512x1024, .f32⟩
  | 16 => ⟨S16x512x1024, .f32⟩
  | 17 => ⟨S_, .f32⟩
  | 18 => ⟨S16x512x1024, .f32⟩
  | 19 => ⟨S16x512x1024, .f32⟩
  | 20 => ⟨S16x512x1024, .f32⟩
  | 21 => ⟨S16x512x1024, .f32⟩
  | 22 => ⟨S16x512x1, .f32⟩
  | 23 => ⟨S1x1x1, .f32⟩
  | 24 => ⟨S16x512x1, .f32⟩
  | 25 => ⟨S16x512x1, .f32⟩
  | 26 => ⟨S16x512x1, .f32⟩
  | 27 => ⟨S16x512x1, .f32⟩
  | 28 => ⟨S_, .f32⟩
  | 29 => ⟨S16x512x1, .f32⟩
  | 30 => ⟨S16x512x1, .f32⟩
  | 31 => ⟨S_, .f32⟩
  | 32 => ⟨S16x512x1, .f32⟩
  | 33 => ⟨S16x512x1, .f32⟩
  | 34 => ⟨S_, .f32⟩
  | 35 => ⟨S16, .f32⟩
  | 36 => ⟨S16x1x1, .f32⟩
  | 37 => ⟨S_, .f32⟩
  | 38 => ⟨S16, .f32⟩
  | 39 => ⟨S16x1x1, .f32⟩
  | 40 => ⟨S16x1x1, .i1⟩
  | 41 => ⟨S16x512x1, .f32⟩
  | 42 => ⟨S16x512x1, .f32⟩
  | 43 => ⟨S16x1x1, .f32⟩
  | 44 => ⟨S16x512x1, .f32⟩
  | 45 => ⟨S16x512x1, .f32⟩
  | 46 => ⟨S16x512x1, .i1⟩
  | 47 => ⟨S16x512x1, .f32⟩
  | 48 => ⟨S16x512x2048, .f32⟩
  | 49 => ⟨S_, .f32⟩
  | 50 => ⟨S16x512, .f32⟩
  | 51 => ⟨S16x512x1, .f32⟩
  | 52 => ⟨S16x512x1, .f32⟩
  | 53 => ⟨S_, .f32⟩
  | 54 => ⟨S16x512x1, .f32⟩
  | 55 => ⟨S16x512x1, .f32⟩
  | 56 => ⟨S16x512x2048, .f32⟩
  | 57 => ⟨S16x512x2048, .f32⟩
  | 58 => ⟨S16x512x512, .f32⟩
  | 59 => ⟨S16x512, .f32⟩
  | 60 => ⟨S_, .f32⟩
  | 61 => ⟨S16x512, .f32⟩
  | 62 => ⟨S16x512, .f32⟩
  | 63 => ⟨S512x512, .i32⟩
  | 64 => ⟨S512x512, .i32⟩
  | 65 => ⟨S_, .i32⟩
  | 66 => ⟨S512x512, .i32⟩
  | 67 => ⟨S512x512, .i32⟩
  | 68 => ⟨S512x512, .i1⟩
  | 69 => ⟨S1x512x512, .i1⟩
  | 70 => ⟨S16x512x1, .f32⟩
  | 71 => ⟨S16x1x512, .f32⟩
  | 72 => ⟨S16x512x512, .f32⟩
  | 73 => ⟨S16x512x512, .f32⟩
  | 74 => ⟨S16x512x512, .f32⟩
  | 75 => ⟨S16x512x512, .f32⟩
  | 76 => ⟨S_, .f32⟩
  | 77 => ⟨S_, .f32⟩
  | 78 => ⟨S16x512x512, .i1⟩
  | 79 => ⟨S16x512x512, .f32⟩
  | 80 => ⟨S16x512x512, .f32⟩
  | 81 => ⟨S_, .i1⟩
  | 82 => ⟨S512, .i1⟩
  | 83 => ⟨S_, .i32⟩
  | 84 => ⟨S128, .i32⟩
  | 85 => ⟨S_, .i32⟩
  | 86 => ⟨S128, .i32⟩
  | 87 => ⟨S16x512, .i1⟩
  | 88 => ⟨S16x128, .i32⟩
  | 89 => ⟨S16x128, .i32⟩
  | 90 => ⟨S_, .i32⟩
  | 91 => ⟨S_, .i32⟩
  | 92 => ⟨S16x512x512, .f32⟩
  | 93 => ⟨S_, .i32⟩
  | 94 => ⟨S_, .i32⟩
  | 95 => ⟨S16x512, .i1⟩
  | 96 => ⟨S16x128, .i32⟩
  | 97 => ⟨S16x128, .i32⟩
  | 98 => ⟨S_, .i32⟩
  | 99 => ⟨S_, .i1⟩
  | 100 => ⟨S_, .i32⟩
  | 101 => ⟨S_, .i32⟩
  | 102 => ⟨S512, .i32⟩
  | 103 => ⟨S128, .i32⟩
  | 104 => ⟨S262144, .i32⟩
  | 105 => ⟨S_, .i32⟩
  | 106 => ⟨S262144, .i32⟩
  | 107 => ⟨S_, .f32⟩
  | 108 => ⟨S512x512, .f32⟩
  | 109 => ⟨S16x512x1, .i1⟩
  | 110 => ⟨S16x1x512, .i1⟩
  | 111 => ⟨S16x512x512, .i1⟩
  | 112 => ⟨S16x512x512, .i1⟩
  | 113 => ⟨S16x512x512, .i1⟩
  | 114 => ⟨S16x512x512, .f32⟩
  | 115 => ⟨S16x512x512, .f32⟩
  | 116 => ⟨S16x262144, .f32⟩
  | 117 => ⟨S_, .f32⟩
  | 118 => ⟨S16, .f32⟩
  | 119 => ⟨S16x1, .f32⟩
  | 120 => ⟨S16x262144, .f32⟩
  | 121 => ⟨S16x262144, .i1⟩
  | 122 => ⟨S16x262144, .i32⟩
  | 123 => ⟨S16x262144, .i32⟩
  | 124 => ⟨S16x262144, .i32⟩
  | 125 => ⟨S_, .i32⟩
  | 126 => ⟨S16, .i32⟩
  | 127 => ⟨S_, .i32⟩
  | _ => ⟨S16x512x2048, .f32⟩

abbrev hbmTy0_1 (i : Nat) : BufTy := match i % 128 with
  | 0 => ⟨S16, .i32⟩
  | 1 => ⟨S16, .i32⟩
  | 2 => ⟨S_, .i32⟩
  | 3 => ⟨S16, .i32⟩
  | 4 => ⟨S16, .i32⟩
  | 5 => ⟨S1x512, .i32⟩
  | 6 => ⟨S16x1, .i32⟩
  | 7 => ⟨S16x512, .i32⟩
  | 8 => ⟨S16x512, .i32⟩
  | 9 => ⟨S16x512, .i1⟩
  | 10 => ⟨S16x512, .i1⟩
  | 11 => ⟨S1x512, .i32⟩
  | 12 => ⟨S16x1, .i32⟩
  | 13 => ⟨S16x512, .i32⟩
  | 14 => ⟨S16x512, .i32⟩
  | 15 => ⟨S16x512, .i1⟩
  | 16 => ⟨S16x512, .i1⟩
  | 17 => ⟨S_, .i32⟩
  | 18 => ⟨S128, .i32⟩
  | 19 => ⟨S128, .i1⟩
  | 20 => ⟨S16x128, .i32⟩
  | 21 => ⟨S16x128, .i1⟩
  | 22 => ⟨S16x128, .i32⟩
  | 23 => ⟨S_, .i32⟩
  | 24 => ⟨S128, .i32⟩
  | 25 => ⟨S128, .i1⟩
  | 26 => ⟨S16x128, .i32⟩
  | 27 => ⟨S16x128, .i1⟩
  | 28 => ⟨S16x128, .i32⟩
  | 29 => ⟨S_, .i32⟩
  | 30 => ⟨S_, .i32⟩
  | 31 => ⟨S16x128x1, .i32⟩
  | 32 => ⟨S_, .i32⟩
  | 33 => ⟨S16x128x1, .i32⟩
  | 34 => ⟨S16x128x1, .i1⟩
  | 35 => ⟨S_, .i32⟩
  | 36 => ⟨S16x128x1, .i32⟩
  | 37 => ⟨S16x128x1, .i32⟩
  | 38 => ⟨S16x128x1, .i32⟩
  | 39 => ⟨S16x128x2048, .f32⟩
  | 40 => ⟨S16x128x1, .i32⟩
  | 41 => ⟨S_, .i32⟩
  | 42 => ⟨S16x128x1, .i32⟩
  | 43 => ⟨S16x128x1, .i1⟩
  | 44 => ⟨S_, .i32⟩
  | 45 => ⟨S16x128x1, .i32⟩
  | 46 => ⟨S16x128x1, .i32⟩
  | 47 => ⟨S16x128x1, .i32⟩
  | 48 => ⟨S16x128x2048, .f32⟩
  | 49 => ⟨S16x128x4096, .f32⟩
  | 50 => ⟨S16x128x2048, .f32⟩
  | 51 => ⟨S1x1x2048, .f32⟩
  | 52 => ⟨S16x128x2048, .f32⟩
  | 53 => ⟨S16x128x2048, .f32⟩
  | 54 => ⟨S_, .f32⟩
  | 55 => ⟨S16x128x2048, .f32⟩
  | 56 => ⟨S16x128x2048, .f32⟩
  | 57 => ⟨S16x128x2048, .f32⟩
  | 58 => ⟨S_, .f32⟩
  | 59 => ⟨S16x128x2048, .f32⟩
  | 60 => ⟨S16x128x2048, .f32⟩
  | 61 => ⟨S16x128x2048, .f32⟩
  | 62 => ⟨S16x128x2048, .f32⟩
  | 63 => ⟨S16x128x2048, .f32⟩
  | 64 => ⟨S1x1x2048, .f32⟩
  | 65 => ⟨S16x128x2048, .f32⟩
  | 66 => ⟨S16x128x2048, .f32⟩
  | 67 => ⟨S512, .i32⟩
  | 68 => ⟨S1x512, .i32⟩
  | 69 => ⟨S_, .i32⟩
  | 70 => ⟨S_, .i32⟩
  | 71 => ⟨S16x512, .i32⟩
  | 72 => ⟨S16x512, .i32⟩
  | 73 => ⟨S16x512, .i32⟩
  | 74 => ⟨S16x512, .i32⟩
  | 75 => ⟨S16x256, .i32⟩
  | 76 => ⟨S16x256x1, .i32⟩
  | 77 => ⟨S_, .i32⟩
  | 78 => ⟨S16x256x1, .i32⟩
  | 79 => ⟨S16x256x1, .i1⟩
  | 80 => ⟨S_, .i32⟩
  | 81 => ⟨S16x256x1, .i32⟩
  | 82 => ⟨S16x256x1, .i32⟩
  | 83 => ⟨S16x256x1, .i32⟩
  | 84 => ⟨S16x256x2048, .f32⟩
  | 85 => ⟨S16x384x2048, .f32⟩
  | _ => ⟨S16x512x2048, .f32⟩

abbrev hbmTy (i : Nat) : BufTy := match i / 128 with
  | 0 => hbmTy0_0 i
  | 1 => hbmTy0_1 i
  | _ => ⟨S16x512x2048, .f32⟩

abbrev bufTy : (tb : Table) → Fin (tcTables nBuf tb) → BufTy
  | .hbm, ⟨i, _⟩ => hbmTy i
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_v31 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_c_12 : Ref sig .tc := ⟨.hbm, 91, rfl⟩
abbrev main_v60_0 : Ref sig .tc := ⟨.hbm, 92, rfl⟩
abbrev main_v60_1 : Ref sig .tc := ⟨.hbm, 93, rfl⟩
abbrev main_v60_2 : Ref sig .tc := ⟨.hbm, 94, rfl⟩
abbrev main_v60_3 : Ref sig .tc := ⟨.hbm, 95, rfl⟩
abbrev main_v60_4 : Ref sig .tc := ⟨.hbm, 96, rfl⟩
abbrev main_v60_5 : Ref sig .tc := ⟨.hbm, 97, rfl⟩
abbrev main_while0c_c_21 : Ref sig .tc := ⟨.hbm, 98, rfl⟩
abbrev main_while0c_v89 : Ref sig .tc := ⟨.hbm, 99, rfl⟩
abbrev main_while0b_c_21 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_c_22 : Ref sig .tc := ⟨.hbm, 105, rfl⟩
abbrev main_while0b_v93 : Ref sig .tc := ⟨.hbm, 106, rfl⟩
abbrev main_while0b_cst_23 : Ref sig .tc := ⟨.hbm, 107, rfl⟩
abbrev main_while0b_v94 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_v101 : Ref sig .tc := ⟨.hbm, 115, rfl⟩
abbrev main_while0b_v102 : Ref sig .tc := ⟨.hbm, 116, rfl⟩
abbrev main_while0b_cst_24 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_c_25 : Ref sig .tc := ⟨.hbm, 125, rfl⟩
abbrev main_while0b_v110 : Ref sig .tc := ⟨.hbm, 126, rfl⟩
abbrev main_while0b_c_26 : Ref sig .tc := ⟨.hbm, 127, rfl⟩
abbrev main_while0b_v111 : Ref sig .tc := ⟨.hbm, 128, rfl⟩
abbrev main_while0b_v112 : Ref sig .tc := ⟨.hbm, 129, rfl⟩
abbrev main_while0b_c_27 : Ref sig .tc := ⟨.hbm, 130, rfl⟩
abbrev main_while0b_v113 : Ref sig .tc := ⟨.hbm, 131, rfl⟩
abbrev main_while0b_v114 : Ref sig .tc := ⟨.hbm, 132, rfl⟩
abbrev main_while0b_v115 : Ref sig .tc := ⟨.hbm, 133, rfl⟩
abbrev main_while0b_v116 : Ref sig .tc := ⟨.hbm, 134, rfl⟩
abbrev main_while0b_v117 : Ref sig .tc := ⟨.hbm, 135, rfl⟩
abbrev main_while0b_v118 : Ref sig .tc := ⟨.hbm, 136, rfl⟩
abbrev main_while0b_v119 : Ref sig .tc := ⟨.hbm, 137, rfl⟩
abbrev main_while0b_v120 : Ref sig .tc := ⟨.hbm, 138, rfl⟩
abbrev main_while0b_v121 : Ref sig .tc := ⟨.hbm, 139, rfl⟩
abbrev main_while0b_v122 : Ref sig .tc := ⟨.hbm, 140, rfl⟩
abbrev main_while0b_v123 : Ref sig .tc := ⟨.hbm, 141, rfl⟩
abbrev main_while0b_v124 : Ref sig .tc := ⟨.hbm, 142, rfl⟩
abbrev main_while0b_v125 : Ref sig .tc := ⟨.hbm, 143, rfl⟩
abbrev main_while0b_v126 : Ref sig .tc := ⟨.hbm, 144, rfl⟩
abbrev main_while0b_v127 : Ref sig .tc := ⟨.hbm, 145, rfl⟩
abbrev main_while0b_v128 : Ref sig .tc := ⟨.hbm, 146, rfl⟩
abbrev main_while0b_v129 : Ref sig .tc := ⟨.hbm, 147, rfl⟩
abbrev main_while0b_v130 : Ref sig .tc := ⟨.hbm, 148, rfl⟩
abbrev main_while0b_v131 : Ref sig .tc := ⟨.hbm, 149, rfl⟩
abbrev main_while0b_v132 : Ref sig .tc := ⟨.hbm, 150, rfl⟩
abbrev main_while0b_v133 : Ref sig .tc := ⟨.hbm, 151, rfl⟩
abbrev main_while0b_v134 : Ref sig .tc := ⟨.hbm, 152, rfl⟩
abbrev main_while0b_v135 : Ref sig .tc := ⟨.hbm, 153, rfl⟩
abbrev main_while0b_v136 : Ref sig .tc := ⟨.hbm, 154, rfl⟩
abbrev main_while0b_v137 : Ref sig .tc := ⟨.hbm, 155, rfl⟩
abbrev main_while0b_v138 : Ref sig .tc := ⟨.hbm, 156, rfl⟩
abbrev main_while0b_c_28 : Ref sig .tc := ⟨.hbm, 157, rfl⟩
abbrev main_while0b_v139 : Ref sig .tc := ⟨.hbm, 158, rfl⟩
abbrev main_v61 : Ref sig .tc := ⟨.hbm, 159, rfl⟩
abbrev main_call3_c : Ref sig .tc := ⟨.hbm, 160, rfl⟩
abbrev main_call3_v0 : Ref sig .tc := ⟨.hbm, 161, rfl⟩
abbrev main_call3_v1 : Ref sig .tc := ⟨.hbm, 162, rfl⟩
abbrev main_call3_c_0 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_v62 : Ref sig .tc := ⟨.hbm, 167, rfl⟩
abbrev main_v63 : Ref sig .tc := ⟨.hbm, 168, rfl⟩
abbrev main_call4_c : Ref sig .tc := ⟨.hbm, 169, rfl⟩
abbrev main_call4_v0 : Ref sig .tc := ⟨.hbm, 170, rfl⟩
abbrev main_call4_v1 : Ref sig .tc := ⟨.hbm, 171, rfl⟩
abbrev main_call4_c_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_cst_13 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_cst_14 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_c_15 : Ref sig .tc := ⟨.hbm, 197, rfl⟩
abbrev main_call5_v0 : Ref sig .tc := ⟨.hbm, 198, rfl⟩
abbrev main_call5_v1 : Ref sig .tc := ⟨.hbm, 199, rfl⟩
abbrev main_call5_v2 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_call7_c : Ref sig .tc := ⟨.hbm, 205, rfl⟩
abbrev main_call7_v0 : Ref sig .tc := ⟨.hbm, 206, rfl⟩
abbrev main_call7_v1 : Ref sig .tc := ⟨.hbm, 207, rfl⟩
abbrev main_call7_c_0 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v87 : Ref sig .tc := ⟨.hbm, 212, rfl⟩
abbrev main_v88 : Ref sig .tc := ⟨.hbm, 213, rfl⟩

abbrev nD : Nat := 1
abbrev τ : Topo := Topo.v7x

variable {F : FTy → Type} [FloatOps F]

abbrev main_while0_count : Scf.Loop 32 := ⟨0#32, 128#32, 1#32⟩
-- ==== Proof.Group.lean ====
/- One group's share of a trip of the selection loop. A trip of `cc0_greedy_select`'s loop is printed as eight copies of the same
   stretch, one per batch of the block, cut into parts at arbitrary places. Here the stretch is written once, over the group's
   number, and a trip is shown to be its eight copies in turn. -/
module

public import proofs.«01_k».proof.Proof.Gen.KernelIdeal.Loops
public import proofs.«01_k».proof.Proof.Gen.KernelIdeal.Regions

@[expose] public section

noncomputable section

namespace Cert.KernelIdeal.Gen

open Idealize.ShloMosaic Idealize.SL.Sem

variable {F : FTy → Type} [FloatOps F]

/-- The place of the first entry of `x` that attains its maximum, as a float; `v1` holds the places. -/
def firstMax (v1 x : FVec F S1x512 .f32) : F .f32 :=
  extractAt ![0, 0]
    (shapeCast S1x1
      (multiReduction .minimumf [1] S1
        (select
          (cmpf .oeq x
            (broadcastTo S1x512
              (shapeCast S1x1 (multiReduction .maximumf [1] S1 x 0xFF800000#32 reduces_S1x512_S1 (.inl rfl) rfl) shapeCasts_S1_S1x1)
              broadcasts_S1x1_S1x512))
          v1 (broadcast S1x512 (Scalar.ofBits .f32 0x44000000#32)))
        0x7F800000#32 reduces_S1x512_S1 (.inl rfl) rfl)
      shapeCasts_S1_S1x1)
    inpos_S1x1_p0_0

/-- The slab's column maxima, the penalties added. -/
def colScore (pen : FVec F S1x512 .f32) (slab : Vec F S1x512x512 .f32) : FVec F S1x512 .f32 :=
  addf
    (shapeCast S1x512
      (multiReduction .maximumf [0] S512 (shapeCast S512x512 slab shapeCasts_S1x512x512_S512x512) 0xFF800000#32
        reduces_S512x512_S512 (.inl rfl) rfl)
      shapeCasts_S512_S1x512)
    pen

/-- Whether a row of a block of eight is the one of word `i`. -/
def rowIs (v3 : IVec S8x1 32) (i : BitVec 32) : IVec S8x512 1 :=
  broadcastTo S8x512 (shapeCast S8x1 (cmpi .eq v3 (broadcast S8x1 (Scalar.andi i 7#32))) shapeCasts_S8x1_S8x1) broadcasts_S8x1_S8x512

/-- Row `i` of a block of eight rows, the penalties added. -/
def rowScore (v3 : IVec S8x1 32) (pen : FVec F S1x512 .f32) (i : BitVec 32) (blk : Vec F S1x8x512 .f32) : FVec F S1x512 .f32 :=
  addf
    (shapeCast S1x512
      (multiReduction .maximumf [0] S512
        (select (rowIs v3 i) (shapeCast S8x512 blk shapeCasts_S1x8x512_S8x512) (broadcast S8x512 (Scalar.ofBits .f32 0xFF61B1E6#32)))
        0xFF800000#32 reduces_S8x512_S512 (.inl rfl) rfl)
      shapeCasts_S512_S1x512)
    pen

/-- The block of eight rows with row `i` struck out. -/
def strike (v3 : IVec S8x1 32) (i : BitVec 32) (blk : Vec F S1x8x512 .f32) : FVec F S1x8x512 .f32 :=
  shapeCast S1x8x512
    (select (rowIs v3 i) (broadcast S8x512 (Scalar.ofBits .f32 0xCE6E6B28#32)) (shapeCast S8x512 blk shapeCasts_S1x8x512_S8x512))
    shapeCasts_S8x512_S1x8x512

/-- Slot `t` of group `g`'s row of a list of picks set to `i`. -/
def putPick (v2 : IVec S1x128 32) (v4 : IVec S8x1 32) (g t : BitVec 32) (i : BitVec 32) (piv : IVec S8x128 32) : IVec S8x128 32 :=
  select
    (andi (broadcastTo S8x128 (cmpi .eq v4 (broadcast S8x1 g)) broadcasts_S8x1_S8x128)
      (broadcastTo S8x128 (cmpi .eq v2 (broadcast S1x128 t)) broadcasts_S1x128_S8x128))
    (broadcast S8x128 i) piv

/-- Group `g`'s penalties at `i` and `j` set. -/
def putPen (v0 : IVec S1x512 32) (v4 : IVec S8x1 32) (g : BitVec 32) (i j : BitVec 32) (pen : FVec F S8x512 .f32) : FVec F S8x512 .f32 :=
  select
    (andi (broadcastTo S8x512 (cmpi .eq v4 (broadcast S8x1 g)) broadcasts_S8x1_S8x512)
      (broadcastTo S8x512 (ori (cmpi .eq v0 (broadcast S1x512 i)) (cmpi .eq v0 (broadcast S1x512 j))) broadcasts_S1x512_S8x512))
    (broadcast S8x512 (Scalar.ofBits .f32 0xCE6E6B28#32)) pen

/-- Group `g`'s block of eight rows that holds row `i`. -/
def blkOff (g : ℕ) (i : BitVec 32) : Fin 3 → ℕ := ![g, (Scalar.indexCast (Scalar.shli (Scalar.shrsi i 3#32) 3#32)).toNat, 0]

/-- One group's stretch of a trip. -/
def groupProg (arg7 : Memref sig .tc .vmem S8x512x512 .f32) (v0 : IVec S1x512 32) (v2 : IVec S1x128 32) (v3 v4 : IVec S8x1 32)
    (g : ℕ) (hslab : ∀ a, (![g, 0, 0] : Fin 3 → ℕ) a + S1x512x512.size a ≤ S8x512x512.size a) (hpen : S8x512.Slices ![g, 0] S1x512)
    (P Q : BitVec 32 → Prop) (dP : ∀ v, Decidable (P v)) (dQ : ∀ v, Decidable (Q v))
    (hP : ∀ v, P v → ∀ a, blkOff g v a + S1x8x512.size a ≤ S8x512x512.size a)
    (hQ : ∀ v, Q v → ∀ a, blkOff g v a + S1x8x512.size a ≤ S8x512x512.size a)
    (t : BitVec 32) (s : FVec F S8x512 .f32 × IVec S8x128 32 × IVec S8x128 32) :
    Prog (TpuEff nD τ sig (Elt F) Λ₀ .tc) (FVec F S8x512 .f32 × IVec S8x128 32 × IVec S8x128 32) := do
  let slab : Vec F S1x512x512 .f32 ← Prog.lift (.load arg7 (Rect.unit (s := S8x512x512) ![g, 0, 0] S1x512x512.size hslab).toLoadRect (View.loadsAt_vmem h_S1x512x512))
  let i : BitVec 32 := Scalar.fptosi 32 (firstMax k0_pay1 (colScore (extractStridedSlice S1x512 ![g, 0] s.1 hpen) slab))
  have hi : P i := (← Prog.lift (TpuEff.assume (P i) (dP i))).down
  let blk : Vec F S1x8x512 .f32 ← Prog.lift (.load arg7 (Rect.unit (s := S8x512x512) (blkOff g i) S1x8x512.size (hP i hi)).toLoadRect (View.loadsAt_vmem h_S1x8x512))
  let j : BitVec 32 := Scalar.fptosi 32 (firstMax k0_pay1 (rowScore v3 (extractStridedSlice S1x512 ![g, 0] s.1 hpen) i blk))
  have hj : Q j := (← Prog.lift (TpuEff.assume (Q j) (dQ j))).down
  let b1 : Vec F S1x8x512 .f32 ← Prog.lift (.load arg7 (Rect.unit (s := S8x512x512) (blkOff g i) S1x8x512.size (hP i hi)).toLoadRect (View.loadsAt_vmem h_S1x8x512))
  let _ : Vec F S1x8x512 .f32 ← Prog.lift (.load arg7 (Rect.unit (s := S8x512x512) (blkOff g i) S1x8x512.size (hP i hi)).toLoadRect (View.loadsAt_vmem h_S1x8x512))
  Prog.lift (.store arg7 (Rect.unit (s := S8x512x512) (blkOff g i) S1x8x512.size (hP i hi)) (strike v3 i b1) Finset.univ (View.stores_vmem_bits_univ h_S1x8x512 rfl) (.inl rfl))
  let b2 : Vec F S1x8x512 .f32 ← Prog.lift (.load arg7 (Rect.unit (s := S8x512x512) (blkOff g j) S1x8x512.size (hQ j hj)).toLoadRect (View.loadsAt_vmem h_S1x8x512))
  let _ : Vec F S1x8x512 .f32 ← Prog.lift (.load arg7 (Rect.unit (s := S8x512x512) (blkOff g j) S1x8x512.size (hQ j hj)).toLoadRect (View.loadsAt_vmem h_S1x8x512))
  Prog.lift (.store arg7 (Rect.unit (s := S8x512x512) (blkOff g j) S1x8x512.size (hQ j hj)) (strike v3 j b2) Finset.univ (View.stores_vmem_bits_univ h_S1x8x512 rfl) (.inl rfl))
  pure (putPen v0 v4 (BitVec.ofNat 32 g) i j s.1, putPick v2 v4 (BitVec.ofNat 32 g) t i s.2.1, putPick v2 v4 (BitVec.ofNat 32 g) t j s.2.2)

set_option maxRecDepth 65536 in
set_option maxHeartbeats 40000000 in
/-- A trip is the eight groups' stretches in turn. -/
theorem k0_t1_body_eq_groups (i : grid0.Coords) (arg2 : Memref sig .tc .vmem S1x512x2048 .f32) (harg2 : arg2.IsWhole) (arg3 : Memref sig .tc .vmem S1x1x512 .f32) (harg3 : arg3.IsWhole) (arg4 : Memref sig .tc .vmem S1x8x128 .i32) (harg4 : arg4.IsWhole) (arg5 : Memref sig .tc .vmem S1x8x128 .i32) (harg5 : arg5.IsWhole) (arg6 : Memref sig .tc .vmem S1x8x512 .f32) (harg6 : arg6.IsWhole) (arg7 : Memref sig .tc .vmem S8x512x512 .f32) (harg7 : arg7.IsWhole) (v0 : IVec S1x512 32) (v2 : IVec S1x128 32) (v3 : IVec S8x1 32) (v4 : IVec S8x1 32) (k0_h1 : k0_cond1 i = 1#1)
    (t : Fin k0_t1_loop.trips) (s : FVec F S8x512 .f32 × IVec S8x128 32 × IVec S8x128 32) :
    k0_t1_body (F := F) i arg2 harg2 arg3 harg3 arg4 harg4 arg5 harg5 arg6 harg6 arg7 harg7 v0 v2 v3 v4 k0_h1 t s = (do
      let w : BitVec 32 := Scf.iv 0#32 1#32 t
      let s ← groupProg arg7 v0 v2 v3 v4 0 inb_S8x512x512_S1x512x512_0_0_0 slices_S8x512_o0_0_S1x512 (k0_chk1 i) (k0_chk2 i) (k0_chk1.dec i) (k0_chk2.dec i) (fun v h => k0_off2_inb i v h k0_h1) (fun v h => k0_off3_inb i v h k0_h1) w s
      let s ← groupProg arg7 v0 v2 v3 v4 1 inb_S8x512x512_S1x512x512_1_0_0 slices_S8x512_o1_0_S1x512 (k0_chk3 i) (k0_chk4 i) (k0_chk3.dec i) (k0_chk4.dec i) (fun v h => k0_off4_inb i v h k0_h1) (fun v h => k0_off5_inb i v h k0_h1) w s
      let s ← groupProg arg7 v0 v2 v3 v4 2 inb_S8x512x512_S1x512x512_2_0_0 slices_S8x512_o2_0_S1x512 (k0_chk5 i) (k0_chk6 i) (k0_chk5.dec i) (k0_chk6.dec i) (fun v h => k0_off6_inb i v h k0_h1) (fun v h => k0_off7_inb i v h k0_h1) w s
      let s ← groupProg arg7 v0 v2 v3 v4 3 inb_S8x512x512_S1x512x512_3_0_0 slices_S8x512_o3_0_S1x512 (k0_chk7 i) (k0_chk8 i) (k0_chk7.dec i) (k0_chk8.dec i) (fun v h => k0_off8_inb i v h k0_h1) (fun v h => k0_off9_inb i v h k0_h1) w s
      let s ← groupProg arg7 v0 v2 v3 v4 4 inb_S8x512x512_S1x512x512_4_0_0 slices_S8x512_o4_0_S1x512 (k0_chk9 i) (k0_chk10 i) (k0_chk9.dec i) (k0_chk10.dec i) (fun v h => k0_off10_inb i v h k0_h1) (fun v h => k0_off11_inb i v h k0_h1) w s
      let s ← groupProg arg7 v0 v2 v3 v4 5 inb_S8x512x512_S1x512x512_5_0_0 slices_S8x512_o5_0_S1x512 (k0_chk11 i) (k0_chk12 i) (k0_chk11.dec i) (k0_chk12.dec i) (fun v h => k0_off12_inb i v h k0_h1) (fun v h => k0_off13_inb i v h k0_h1) w s
      let s ← groupProg arg7 v0 v2 v3 v4 6 inb_S8x512x512_S1x512x512_6_0_0 slices_S8x512_o6_0_S1x512 (k0_chk13 i) (k0_chk14 i) (k0_chk13.dec i) (k0_chk14.dec i) (fun v h => k0_off14_inb i v h k0_h1) (fun v h => k0_off15_inb i v h k0_h1) w s
      groupProg arg7 v0 v2 v3 v4 7 inb_S8x512x512_S1x512x512_7_0_0 slices_S8x512_o7_0_S1x512 (k0_chk15 i) (k0_chk16 i) (k0_chk15.dec i) (k0_chk16.dec i) (fun v h => k0_off16_inb i v h k0_h1) (fun v h => k0_off17_inb i v h k0_h1) w s) := rfl

end Cert.KernelIdeal.Gen

end
-- ==== Proof.GroupRun.lean ====
/- One group's stretch of a trip, run: what it leaves in the scratch slab and what it carries on. -/
module

public import proofs.«01_k».proof.Proof.Group

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The carried value: the penalties and the two lists of picks. -/
abbrev Carry (F : FTy → Type) : Type := FVec F S8x512 .f32 × IVec S8x128 32 × IVec S8x128 32

/-- What group `g`'s stretch makes of the slab's buffer `f` and the carried `s`. -/
def GroupOut {κ : Kind} (v : View sig κ .vmem S8x512x512 .f32) (v0 : IVec S1x512 32) (v2 : IVec S1x128 32) (v3 v4 : IVec S8x1 32)
    (g : ℕ) (hslab : ∀ a, (![g, 0, 0] : Fin 3 → ℕ) a + S1x512x512.size a ≤ S8x512x512.size a) (hpen : S8x512.Slices ![g, 0] S1x512)
    (t : BitVec 32) (s : Carry F) (f : v.ty.Contents (Elt F)) (s' : Carry F) (f' : v.ty.Contents (Elt F)) : Prop :=
  ∃ (i j : BitVec 32) (hi : ∀ a, blkOff g i a + S1x8x512.size a ≤ S8x512x512.size a) (hj : ∀ a, blkOff g j a + S1x8x512.size a ≤ S8x512x512.size a),
    i = Scalar.fptosi 32 (firstMax k0_pay1 (colScore (extractStridedSlice S1x512 ![g, 0] s.1 hpen)
      (v.readAt (Elt F) (Rect.unit (s := S8x512x512) ![g, 0, 0] S1x512x512.size hslab).toLoadRect f)))
    ∧ j = Scalar.fptosi 32 (firstMax k0_pay1 (rowScore v3 (extractStridedSlice S1x512 ![g, 0] s.1 hpen) i
      (v.readAt (Elt F) (Rect.unit (s := S8x512x512) (blkOff g i) S1x8x512.size hi).toLoadRect f)))
    ∧ f' = v.writes (Elt F) f
      [⟨Rect.unit (s := S8x512x512) (blkOff g j) S1x8x512.size hj, strike v3 j (v.readAt (Elt F) (Rect.unit (s := S8x512x512) (blkOff g j) S1x8x512.size hj).toLoadRect
          (v.writes (Elt F) f [⟨Rect.unit (s := S8x512x512) (blkOff g i) S1x8x512.size hi, strike v3 i (v.readAt (Elt F) (Rect.unit (s := S8x512x512) (blkOff g i) S1x8x512.size hi).toLoadRect f)⟩]))⟩,
        ⟨Rect.unit (s := S8x512x512) (blkOff g i) S1x8x512.size hi, strike v3 i (v.readAt (Elt F) (Rect.unit (s := S8x512x512) (blkOff g i) S1x8x512.size hi).toLoadRect f)⟩]
    ∧ s' = (putPen v0 v4 (BitVec.ofNat 32 g) i j s.1, putPick v2 v4 (BitVec.ofNat 32 g) t i s.2.1, putPick v2 v4 (BitVec.ofNat 32 g) t j s.2.2)

set_option maxHeartbeats 4000000 in
theorem group_run (c : Dev nD) (arg7 : Memref sig .tc .vmem S8x512x512 .f32) (h7 : arg7.IsWhole) (v0 : IVec S1x512 32) (v2 : IVec S1x128 32) (v3 v4 : IVec S8x1 32)
    (g : ℕ) (hslab : ∀ a, (![g, 0, 0] : Fin 3 → ℕ) a + S1x512x512.size a ≤ S8x512x512.size a) (hpen : S8x512.Slices ![g, 0] S1x512)
    (P Q : BitVec 32 → Prop) (dP : ∀ v, Decidable (P v)) (dQ : ∀ v, Decidable (Q v))
    (hP : ∀ v, P v → ∀ a, blkOff g v a + S1x8x512.size a ≤ S8x512x512.size a)
    (hQ : ∀ v, Q v → ∀ a, blkOff g v a + S1x8x512.size a ≤ S8x512x512.size a)
    (allP : ∀ x, P (Scalar.fptosi 32 (firstMax (F := F) k0_pay1 x))) (allQ : ∀ x, Q (Scalar.fptosi 32 (firstMax (F := F) k0_pay1 x)))
    (t : BitVec 32) (s : Carry F) (f : Buf (Elt F) (arg7.view.loc (c : Thread nD τ))) :
    (arg7.view.loc (c : Thread nD τ) ↦[arg7.view.set]{fullShare} f : sProp 𝕄)
      ⊢ wp Idealize.ShloMosaic.frame (wpE defs₀ Variants.none (c : Thread nD τ) none) Set.univ
          (groupProg arg7 v0 v2 v3 v4 g hslab hpen P Q dP dQ hP hQ t s)
          (fun s' => iprop(∃ f', (arg7.view.loc (c : Thread nD τ) ↦[arg7.view.set]{fullShare} f')
            ∗ ⌜GroupOut arg7.view v0 v2 v3 v4 g hslab hpen t s f s' f'⌝)) := by
  unfold groupProg
  iintro H
  sl_exec (disch := first | exact allP _ | exact allQ _)
  sl_step
  iexists _
  isplitl [H]
  · iexact H
  · ipureintro
    exact ⟨_, _, hP _ (allP _), hQ _ (allQ _), rfl, rfl, rfl, rfl⟩

end Cert.KernelIdeal.Gen

end
-- ==== Proof.Greedy.lean ====
/- Greedy pair selection as mathematics: the lexicographically first pair attaining the greatest score among the tokens still
   available, the tokens available after `k` such picks, and the kernel's way of finding the pair — the first column of the
   greatest column maximum and then the first greatest entry of that row. -/
module

public import Mathlib.Data.EReal.Operations
public import Mathlib.Data.Finset.Lattice.Fold
public import Idealize.ShloMosaic.PureOps.Ideal

@[expose] public section

noncomputable section

namespace Cert.Greedy

/-- `c` is the first place where `x` is greatest. -/
def IsFirstMax {n : ℕ} (x : Fin n → EReal) (c : Fin n) : Prop := (∀ c', x c' ≤ x c) ∧ ∀ c', c' < c → x c' < x c

theorem exists_firstMax {n : ℕ} (hn : 0 < n) (x : Fin n → EReal) : ∃ c, IsFirstMax x c := by
  classical
  haveI : Nonempty (Fin n) := ⟨⟨0, hn⟩⟩
  obtain ⟨m, -, hm⟩ := Finset.exists_max_image Finset.univ x Finset.univ_nonempty
  have hne : (Finset.univ.filter fun c => x c = x m).Nonempty := ⟨m, by simp⟩
  refine ⟨(Finset.univ.filter fun c => x c = x m).min' hne, ?_⟩
  have h := Finset.min'_mem _ hne
  rw [Finset.mem_filter] at h
  refine ⟨fun c' => (hm c' (Finset.mem_univ _)).trans_eq h.2.symm,
    fun c' hc' => lt_of_le_of_ne ((hm c' (Finset.mem_univ _)).trans_eq h.2.symm) fun e => ?_⟩
  exact absurd (Finset.min'_le _ c' (by simp [e, h.2])) (not_le.mpr hc')

theorem IsFirstMax.unique {n : ℕ} {x : Fin n → EReal} {c d : Fin n} (hc : IsFirstMax x c) (hd : IsFirstMax x d) : c = d := by
  rcases lt_trichotomy c d with h | h | h
  · exact absurd (hd.2 c h) (not_lt.mpr (hc.1 d))
  · exact h
  · exact absurd (hc.2 d h) (not_lt.mpr (hd.1 c))

/-- What the selection needs of a score matrix: symmetry, and entries of moderate size. -/
structure Good (sc : Fin 512 → Fin 512 → EReal) : Prop where
  symm : ∀ r c, sc r c = sc c r
  lower : ∀ r c, ((-1000 : ℝ) : EReal) ≤ sc r c
  upper : ∀ r c, sc r c ≤ ((1000 : ℝ) : EReal)

/-- `p` is the lexicographically first pair of `A` of the greatest score. -/
structure IsPick (sc : Fin 512 → Fin 512 → EReal) (A : Finset (Fin 512)) (p : Fin 512 × Fin 512) : Prop where
  fst_mem : p.1 ∈ A
  snd_mem : p.2 ∈ A
  max : ∀ r ∈ A, ∀ c ∈ A, sc r c ≤ sc p.1 p.2
  first : ∀ r ∈ A, ∀ c ∈ A, sc r c = sc p.1 p.2 → p.1 < r ∨ (p.1 = r ∧ p.2 ≤ c)

theorem exists_pick (sc : Fin 512 → Fin 512 → EReal) (A : Finset (Fin 512)) (hA : A.Nonempty) : ∃ p, IsPick sc A p := by
  classical
  obtain ⟨m, hm, hmax⟩ := Finset.exists_max_image (A ×ˢ A) (fun p => sc p.1 p.2) (hA.product hA)
  have hmem := Finset.mem_product.mp hm
  have h1 : (A.filter fun r => ∃ c ∈ A, sc r c = sc m.1 m.2).Nonempty :=
    ⟨m.1, by simp only [Finset.mem_filter]; exact ⟨hmem.1, m.2, hmem.2, rfl⟩⟩
  set i := (A.filter fun r => ∃ c ∈ A, sc r c = sc m.1 m.2).min' h1 with hi
  have himem := Finset.min'_mem _ h1
  rw [← hi, Finset.mem_filter] at himem
  obtain ⟨hiA, c0, hc0, hic0⟩ := himem
  have h2 : (A.filter fun c => sc i c = sc m.1 m.2).Nonempty := ⟨c0, by simp only [Finset.mem_filter]; exact ⟨hc0, hic0⟩⟩
  set j := (A.filter fun c => sc i c = sc m.1 m.2).min' h2 with hj
  have hjmem := Finset.min'_mem _ h2
  rw [← hj, Finset.mem_filter] at hjmem
  refine ⟨(i, j), hiA, hjmem.1, fun r hr c hc => ?_, fun r hr c hc e => ?_⟩
  · rw [hjmem.2]; exact hmax (r, c) (Finset.mem_product.mpr ⟨hr, hc⟩)
  · change sc r c = sc i j at e
    rw [hjmem.2] at e
    have hle : i ≤ r := Finset.min'_le _ _ (by simp only [Finset.mem_filter]; exact ⟨hr, c, hc, e⟩)
    rcases lt_or_eq_of_le hle with h | h
    · exact Or.inl h
    · refine Or.inr ⟨h, Finset.min'_le _ _ ?_⟩
      simp only [Finset.mem_filter]
      exact ⟨hc, by rw [h]; exact e⟩

theorem IsPick.unique {sc : Fin 512 → Fin 512 → EReal} {A : Finset (Fin 512)} {p q : Fin 512 × Fin 512} (hp : IsPick sc A p)
    (hq : IsPick sc A q) : p = q := by
  have e : sc p.1 p.2 = sc q.1 q.2 := le_antisymm (hq.max _ hp.fst_mem _ hp.snd_mem) (hp.max _ hq.fst_mem _ hq.snd_mem)
  have h1 := hp.first _ hq.fst_mem _ hq.snd_mem e.symm
  have h2 := hq.first _ hp.fst_mem _ hp.snd_mem e
  refine Prod.ext ?_ ?_
  · rcases h1 with h | h
    · rcases h2 with h' | h'
      · exact absurd h (lt_asymm h')
      · exact h'.1.symm
    · exact h.1
  · rcases h1 with h | h
    · rcases h2 with h' | h'
      · exact absurd h (lt_asymm h')
      · exact absurd h'.1 (ne_of_gt h)
    · rcases h2 with h' | h'
      · exact absurd h.1 (ne_of_gt h')
      · exact le_antisymm h.2 h'.2

open Classical in
/-- The pair picked among the tokens of `A`. -/
def pick (sc : Fin 512 → Fin 512 → EReal) (A : Finset (Fin 512)) : Fin 512 × Fin 512 :=
  if h : ∃ p, IsPick sc A p then h.choose else (0, 0)

theorem pick_spec (sc : Fin 512 → Fin 512 → EReal) {A : Finset (Fin 512)} (hA : A.Nonempty) : IsPick sc A (pick sc A) := by
  have h := exists_pick sc A hA
  unfold pick
  rw [dif_pos h]
  exact h.choose_spec

/-- The tokens available after `k` picks. -/
def avail (sc : Fin 512 → Fin 512 → EReal) : ℕ → Finset (Fin 512)
  | 0 => Finset.univ
  | k + 1 => ((avail sc k).erase (pick sc (avail sc k)).1).erase (pick sc (avail sc k)).2

/-- The `k`-th pair picked. -/
def pair (sc : Fin 512 → Fin 512 → EReal) (k : ℕ) : Fin 512 × Fin 512 := pick sc (avail sc k)

theorem mem_avail_succ (sc : Fin 512 → Fin 512 → EReal) (k : ℕ) (c : Fin 512) :
    c ∈ avail sc (k + 1) ↔ c ∈ avail sc k ∧ c ≠ (pair sc k).1 ∧ c ≠ (pair sc k).2 := by
  simp only [avail, Finset.mem_erase, pair]
  tauto

theorem card_avail (sc : Fin 512 → Fin 512 → EReal) (k : ℕ) : 512 ≤ (avail sc k).card + 2 * k := by
  induction k with
  | zero => simp [avail]
  | succ k ih =>
    have h1 := Finset.pred_card_le_card_erase (s := avail sc k) (a := (pick sc (avail sc k)).1)
    have h2 := Finset.pred_card_le_card_erase (s := (avail sc k).erase (pick sc (avail sc k)).1) (a := (pick sc (avail sc k)).2)
    simp only [avail]
    omega

theorem avail_nonempty (sc : Fin 512 → Fin 512 → EReal) {k : ℕ} (hk : k ≤ 128) : (avail sc k).Nonempty := by
  have := card_avail sc k
  exact Finset.card_pos.mp (by omega)

/-- The struck-out score and penalty, and the fill under a row's extraction. -/
abbrev low : EReal := ((-1000000000 : ℝ) : EReal)

/-- A score matrix with the rows outside `A` struck out. -/
def struck (sc : Fin 512 → Fin 512 → EReal) (A : Finset (Fin 512)) (r c : Fin 512) : EReal := if r ∈ A then sc r c else low
/-- The penalties outside `A`. -/
def penalty (A : Finset (Fin 512)) (c : Fin 512) : EReal := if c ∈ A then 0 else low

theorem add_low_lt {a b : EReal} (ha : a ≤ ((1000 : ℝ) : EReal)) (hb : ((-1000 : ℝ) : EReal) ≤ b) : a + low < b := by
  have h : ((1000 : ℝ) : EReal) + low < ((-1000 : ℝ) : EReal) := by
    rw [low, ← EReal.coe_add, EReal.coe_lt_coe_iff]; norm_num
  exact lt_of_le_of_lt (add_le_add_left ha low) (lt_of_lt_of_le h hb)

theorem low_lt {b : EReal} (hb : ((-1000 : ℝ) : EReal) ≤ b) : low < b :=
  lt_of_lt_of_le (by rw [low, EReal.coe_lt_coe_iff]; norm_num) hb

theorem struck_le {sc : Fin 512 → Fin 512 → EReal} (hg : Good sc) (A : Finset (Fin 512)) (r c : Fin 512) :
    struck sc A r c ≤ ((1000 : ℝ) : EReal) := by
  unfold struck
  split
  · exact hg.upper r c
  · rw [low, EReal.coe_le_coe_iff]; norm_num

/-- The first column of the greatest column maximum, penalties added, is the pick's first token. -/
theorem colPick {sc : Fin 512 → Fin 512 → EReal} (hg : Good sc) {A : Finset (Fin 512)} (hA : A.Nonempty) {x : Fin 512 → EReal}
    (hx : ∀ c, x c = (Finset.univ.sup fun r => struck sc A r c) + penalty A c) {i : Fin 512} (hi : IsFirstMax x i) :
    i = (pick sc A).1 := by
  have hp := pick_spec sc hA
  set p := pick sc A
  have hin : ∀ c ∈ A, x c = Finset.univ.sup fun r => struck sc A r c := fun c hc => by
    rw [hx, penalty, if_pos hc, add_zero]
  have hle : ∀ r ∈ A, ∀ c ∈ A, sc r c ≤ x c := fun r hr c hc => by
    rw [hin c hc]
    have := Finset.le_sup (f := fun r => struck sc A r c) (Finset.mem_univ r)
    simpa only [struck, if_pos hr] using this
  have hbnd : ∀ c, (Finset.univ.sup fun r => struck sc A r c) ≤ ((1000 : ℝ) : EReal) :=
    fun c => Finset.sup_le fun r _ => struck_le hg A r c
  have hatt : ∀ c ∈ A, ∃ r ∈ A, x c = sc r c := fun c hc => by
    obtain ⟨r, -, hr⟩ := Finset.exists_mem_eq_sup Finset.univ Finset.univ_nonempty fun r => struck sc A r c
    rw [← hin c hc] at hr
    by_cases hrA : r ∈ A
    · exact ⟨r, hrA, by rw [hr, struck, if_pos hrA]⟩
    · exfalso
      obtain ⟨a, ha⟩ := hA
      have h1 := hle a ha c hc
      rw [hr, struck, if_neg hrA] at h1
      exact absurd h1 (not_le.mpr (low_lt (hg.lower a c)))
  have hp1 : x p.1 = sc p.1 p.2 := by
    obtain ⟨r, hr, e⟩ := hatt p.1 hp.fst_mem
    refine le_antisymm (e ▸ hp.max r hr _ hp.fst_mem) ?_
    rw [hg.symm]
    exact hle _ hp.snd_mem _ hp.fst_mem
  refine hi.unique ⟨fun c => ?_, fun c hc => ?_⟩
  · by_cases hcA : c ∈ A
    · obtain ⟨r, hr, e⟩ := hatt c hcA
      rw [e, hp1]
      exact hp.max r hr c hcA
    · rw [hx, penalty, if_neg hcA, hp1]
      exact (add_low_lt (hbnd c) (hg.lower _ _)).le
  · by_cases hcA : c ∈ A
    · obtain ⟨r, hr, e⟩ := hatt c hcA
      rw [e, hp1]
      refine lt_of_le_of_ne (hp.max r hr c hcA) fun e' => ?_
      rw [hg.symm] at e'
      rcases hp.first c hcA r hr e' with h | h
      · exact absurd hc (lt_asymm h)
      · exact absurd h.1 (ne_of_gt hc)
    · rw [hx, penalty, if_neg hcA, hp1]
      exact add_low_lt (hbnd c) (hg.lower _ _)

/-- The first greatest entry of the pick's row, penalties added, is the pick's second token. -/
theorem rowPick {sc : Fin 512 → Fin 512 → EReal} (hg : Good sc) {A : Finset (Fin 512)} (hA : A.Nonempty) {x : Fin 512 → EReal}
    (hx : ∀ c, x c = sc (pick sc A).1 c + penalty A c) {j : Fin 512} (hj : IsFirstMax x j) :
    j = (pick sc A).2 := by
  have hp := pick_spec sc hA
  set p := pick sc A
  have hin : ∀ c ∈ A, x c = sc p.1 c := fun c hc => by rw [hx, penalty, if_pos hc, add_zero]
  have hp2 : x p.2 = sc p.1 p.2 := hin _ hp.snd_mem
  refine hj.unique ⟨fun c => ?_, fun c hc => ?_⟩
  · by_cases hcA : c ∈ A
    · rw [hin c hcA, hp2]; exact hp.max _ hp.fst_mem c hcA
    · rw [hx, penalty, if_neg hcA, hp2]
      exact (add_low_lt (hg.upper _ _) (hg.lower _ _)).le
  · by_cases hcA : c ∈ A
    · rw [hin c hcA, hp2]
      refine lt_of_le_of_ne (hp.max _ hp.fst_mem c hcA) fun e' => ?_
      rcases hp.first _ hp.fst_mem c hcA e' with h | h
      · exact absurd h (lt_irrefl _)
      · exact absurd hc (not_lt.mpr h.2)
    · rw [hx, penalty, if_neg hcA, hp2]
      exact add_low_lt (hg.upper _ _) (hg.lower _ _)

end Cert.Greedy

end
-- ==== Proof.PickWords.lean ====
/- What one group's stretch computes, read over the extended reals. -/
module

public import proofs.«01_k».proof.Proof.Group
public import proofs.«01_k».proof.Proof.Greedy
public import Idealize.ShloMosaic.Lib.Pointwise
public import Idealize.ShloMosaic.PureOps.Ideal.Laws
public import Idealize.ShloMosaic.Lib.IdealHost

@[expose] public section

noncomputable section

namespace Cert.KernelIdeal.Gen

open Idealize.ShloMosaic Idealize.SL.Sem
open Cert.Greedy

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]
theorem ofBits_low : Ideal.ofBits .f32 0xCE6E6B28#32 = low := by
  simp [Ideal.ofBits, Ideal.ieee, low]
  rw [← EReal.coe_pow, ← EReal.coe_mul, EReal.coe_eq_coe_iff]; norm_num
theorem ofBits_512 : Ideal.ofBits .f32 0x44000000#32 = ((512 : ℝ) : EReal) := by
  simp [Ideal.ofBits, Ideal.ieee]
  rw [← EReal.coe_mul, EReal.coe_eq_coe_iff]; norm_num
theorem ofBits_fill : Ideal.ofBits .f32 0xFF61B1E6#32 ≤ ((-1000 : ℝ) : EReal) := by
  simp [Ideal.ofBits, Ideal.ieee]
  rw [← EReal.coe_pow, ← EReal.coe_mul, EReal.coe_le_coe_iff]; norm_num

theorem fold_max_bot {n : ℕ} (f : Fin n → EReal) : Finset.fold max ⊥ f Finset.univ = Finset.univ.sup f := rfl
theorem fold_min_top {n : ℕ} (f : Fin n → EReal) : Finset.fold min ⊤ f Finset.univ = Finset.univ.inf f := rfl

/-- A natural number below 512, as an extended real, converted to a word. -/
theorem fptosi_nat (n : ℕ) (hn : n < 512) : Ideal.fptosi 32 ((n : ℝ) : EReal) = BitVec.ofNat 32 n := by
  have h : Ideal.toIntClamped (-(2 ^ (32 - 1) : Nat)) ((2 ^ (32 - 1) : Nat) - 1) ((n : ℝ) : EReal) = (n : Int) := by
    rw [Ideal.toIntClamped_coe, if_pos (Nat.cast_nonneg n), Int.floor_natCast]
    omega
  rw [Ideal.fptosi, h, BitVec.ofInt_natCast]

theorem sitofp_nat (n : ℕ) (hn : n < 512) : (FloatOps.sitofp (F := Ideal) .f32 (BitVec.ofNat 32 n) : EReal) = ((n : ℝ) : EReal) := by
  have h : (BitVec.ofNat 32 n).toInt = (n : Int) := by
    rw [BitVec.toInt_eq_toNat_of_lt (by rw [BitVec.toNat_ofNat]; omega), BitVec.toNat_ofNat]
    omega
  show (((BitVec.ofNat 32 n).toInt : ℝ) : EReal) = _
  rw [h]; norm_cast

/-- The word the kernel makes of a row: the first place where the row is greatest. -/
theorem firstMax_word (x : FVec Ideal S1x512 .f32) {c : Fin 512} (hc : IsFirstMax (fun c => (x (ix2 0 c) : EReal)) c) :
    Scalar.fptosi 32 (firstMax k0_pay1 x) = BitVec.ofNat 32 c.val := by
  have h : (firstMax k0_pay1 x : EReal) = ((c.val : ℝ) : EReal) := by
    pointwise [firstMax, k0_pay1]
    rw [ofBits_ninf, ofBits_pinf, ofBits_512, fold_max_bot, fold_min_top]
    have hs : (Finset.univ.sup fun d : Fin 512 => (x (ix2 0 d) : EReal)) = x (ix2 0 c) :=
      le_antisymm (Finset.sup_le fun d _ => hc.1 d) (Finset.le_sup (f := fun d : Fin 512 => (x (ix2 0 d) : EReal)) (Finset.mem_univ c))
    rw [hs]
    refine le_antisymm ?_ (Finset.le_inf fun d _ => ?_)
    · refine (Finset.inf_le (Finset.mem_univ c)).trans ?_
      rw [if_pos rfl, sitofp_nat _ c.isLt]
    · split
      · rename_i e
        rw [sitofp_nat _ d.isLt, EReal.coe_le_coe_iff, Nat.cast_le]
        by_contra hlt
        exact absurd e (ne_of_lt (hc.2 d (by rw [Fin.lt_def]; omega)))
      · rw [EReal.coe_le_coe_iff]
        have := c.isLt
        exact_mod_cast this.le
  show Ideal.fptosi 32 (firstMax k0_pay1 x : EReal) = _
  rw [h, fptosi_nat _ c.isLt]

/-- The word is always that of a token. -/
theorem firstMax_exists (x : FVec Ideal S1x512 .f32) :
    ∃ c : Fin 512, IsFirstMax (fun c => (x (ix2 0 c) : EReal)) c ∧ Scalar.fptosi 32 (firstMax k0_pay1 x) = BitVec.ofNat 32 c.val := by
  obtain ⟨c, hc⟩ := exists_firstMax (by norm_num) fun c => (x (ix2 0 c) : EReal)
  exact ⟨c, hc, firstMax_word x hc⟩

theorem colScore_apply (pen : FVec Ideal S1x512 .f32) (slab : Vec Ideal S1x512x512 .f32) (c : Fin 512) :
    colScore pen slab (ix2 0 c) = (Finset.univ.sup fun r : Fin 512 => (slab (ix3 0 r c) : EReal)) + pen (ix2 0 c) := by
  pointwise [colScore]
  rw [ofBits_ninf, fold_max_bot]

/-- Two numbers below `2 ^ 32` as words, compared. -/
theorem cmpi_nat {a b : ℕ} (ha : a < 512) (hb : b < 512) :
    IntOp.cmpi .eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat]; omega
  show BitVec.ofBool (BitVec.ofNat 32 a == BitVec.ofNat 32 b) = _
  by_cases h : a = b
  · simp [h]
  · rw [if_neg h, beq_eq_false_iff_ne.mpr fun e => h (this.mp e)]; rfl

theorem andi_seven {a : ℕ} (ha : a < 512) : Scalar.andi (BitVec.ofNat 32 a) 7#32 = BitVec.ofNat 32 (a % 8) := by
  apply BitVec.eq_of_toNat_eq
  simp only [Scalar.andi, IntOp.andi, BitVec.toNat_and, BitVec.toNat_ofNat]
  have h7 : 7 % 2 ^ 32 = 2 ^ 3 - 1 := by norm_num
  rw [h7, Nat.and_two_pow_sub_one_eq_mod]
  omega

theorem rowScore_apply {v3 : IVec S8x1 32} (h3 : ∀ r : Fin 8, v3 (ix2 r 0) = BitVec.ofNat 32 r.val) (pen : FVec Ideal S1x512 .f32)
    (i : Fin 512) (blk : Vec Ideal S1x8x512 .f32) (c : Fin 512)
    (hb : ((-1000 : ℝ) : EReal) ≤ (blk (ix3 0 ⟨i.val % 8, Nat.mod_lt _ (by norm_num)⟩ c) : EReal)) :
    rowScore v3 pen (BitVec.ofNat 32 i.val) blk (ix2 0 c)
      = (blk (ix3 0 ⟨i.val % 8, Nat.mod_lt _ (by norm_num)⟩ c) : EReal) + pen (ix2 0 c) := by
  pointwise [rowScore, rowIs]
  rw [ofBits_ninf, fold_max_bot]
  congr 1
  have hr : ∀ r : Fin 8, Scalar.select (IntOp.cmpi CmpIPredicate.eq (v3 (ix2 r 0)) (Scalar.andi (BitVec.ofNat 32 i.val) 7#32))
      (blk (ix3 0 r c) : EReal) (Ideal.ofBits .f32 0xFF61B1E6#32)
      = if r.val = i.val % 8 then (blk (ix3 0 r c) : EReal) else Ideal.ofBits .f32 0xFF61B1E6#32 := fun r => by
    rw [h3, andi_seven i.isLt, cmpi_nat (by omega) (by omega)]
    by_cases h : r.val = i.val % 8 <;> simp [h, Scalar.select]
  refine le_antisymm (Finset.sup_le fun r _ => ?_) ?_
  · rw [hr]
    split
    · rename_i h
      have : r = ⟨i.val % 8, Nat.mod_lt _ (by norm_num)⟩ := Fin.ext h
      rw [this]
    · exact ofBits_fill.trans hb
  · refine le_trans ?_ (Finset.le_sup (Finset.mem_univ ⟨i.val % 8, Nat.mod_lt _ (by norm_num)⟩))
    rw [hr, if_pos rfl]

theorem strike_apply {v3 : IVec S8x1 32} (h3 : ∀ r : Fin 8, v3 (ix2 r 0) = BitVec.ofNat 32 r.val) (i : Fin 512)
    (blk : Vec Ideal S1x8x512 .f32) (r : Fin 8) (c : Fin 512) :
    strike v3 (BitVec.ofNat 32 i.val) blk (ix3 0 r c) = if r.val = i.val % 8 then low else (blk (ix3 0 r c) : EReal) := by
  pointwise [strike, rowIs]
  rw [h3, andi_seven i.isLt, cmpi_nat (by omega) (by omega), ofBits_low]
  by_cases h : r.val = i.val % 8 <;> simp [h, Scalar.select]

theorem putPick_apply {v2 : IVec S1x128 32} {v4 : IVec S8x1 32} (h2 : ∀ p : Fin 128, v2 (ix2 0 p) = BitVec.ofNat 32 p.val)
    (h4 : ∀ r : Fin 8, v4 (ix2 r 0) = BitVec.ofNat 32 r.val) {g t : ℕ} (hg : g < 8) (ht : t < 128) (w : BitVec 32)
    (piv : IVec S8x128 32) (r : Fin 8) (p : Fin 128) :
    putPick v2 v4 (BitVec.ofNat 32 g) (BitVec.ofNat 32 t) w piv (ix2 r p) = if r.val = g ∧ p.val = t then w else piv (ix2 r p) := by
  pointwise [putPick]
  rw [h2, h4, cmpi_nat (by omega) (by omega), cmpi_nat (by omega) (by omega)]
  by_cases h : r.val = g <;> by_cases h' : p.val = t <;> simp [h, h', Scalar.select, IntOp.andi]

theorem select_and_or (p q s : Prop) [Decidable p] [Decidable q] [Decidable s] (x y : EReal) :
    Scalar.select (Scalar.andi (if p then 1#1 else 0#1) (Scalar.ori (if q then 1#1 else 0#1) (if s then 1#1 else 0#1))) x y
      = if p ∧ (q ∨ s) then x else y := by
  by_cases hp : p <;> by_cases hq : q <;> by_cases hs : s <;> simp [hp, hq, hs, Scalar.select, Scalar.andi, Scalar.ori, IntOp.andi, IntOp.ori]

theorem putPen_apply {v0 : IVec S1x512 32} {v4 : IVec S8x1 32} (h0 : ∀ c : Fin 512, v0 (ix2 0 c) = BitVec.ofNat 32 c.val)
    (h4 : ∀ r : Fin 8, v4 (ix2 r 0) = BitVec.ofNat 32 r.val) {g : ℕ} (hg : g < 8) (i j : Fin 512)
    (pen : FVec Ideal S8x512 .f32) (r : Fin 8) (c : Fin 512) :
    putPen v0 v4 (BitVec.ofNat 32 g) (BitVec.ofNat 32 i.val) (BitVec.ofNat 32 j.val) pen (ix2 r c)
      = if r.val = g ∧ (c = i ∨ c = j) then low else (pen (ix2 r c) : EReal) := by
  pointwise [putPen]
  rw [h0, h4, cmpi_nat (by omega) (by omega), cmpi_nat (by omega) (by omega), cmpi_nat (by omega) (by omega), ofBits_low]
  simp only [← Fin.val_inj]
  exact select_and_or _ _ _ _ _

end Cert.KernelIdeal.Gen

end
-- ==== Proof.Trip.lean ====
/- One trip of the selection loop, over the extended reals: from the state after `n` picks in every batch of the block to the state
   after `n + 1`. -/
module

public import proofs.«01_k».proof.Proof.GroupRun
public import proofs.«01_k».proof.Proof.PickWords
public import Idealize.ShloMosaic.Lib.WritesUnit

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Greedy

/-! ## The words that index the slab -/

theorem block_word (i : Fin 512) : (Scalar.shli (Scalar.shrsi (BitVec.ofNat 32 i.val) 3#32) 3#32).toNat = i.val / 8 * 8 := by
  have h := i.isLt
  have hs : (BitVec.ofNat 32 i.val).sshiftRight 3 = (BitVec.ofNat 32 i.val) >>> 3 := by
    rw [BitVec.sshiftRight_eq_of_msb_false]
    rw [BitVec.msb_eq_false_iff_two_mul_lt, BitVec.toNat_ofNat]; omega
  have e : Scalar.shli (Scalar.shrsi (BitVec.ofNat 32 i.val) 3#32) 3#32 = ((BitVec.ofNat 32 i.val).sshiftRight 3) <<< 3 := by
    simp [Scalar.shli, Scalar.shrsi, IntOp.shli, IntOp.shrsi]
  rw [e, hs, BitVec.toNat_shiftLeft, BitVec.toNat_ushiftRight, BitVec.toNat_ofNat, Nat.shiftRight_eq_div_pow, Nat.shiftLeft_eq]
  omega

theorem blkOff_nat (g : ℕ) (i : Fin 512) : blkOff g (BitVec.ofNat 32 i.val) = ![g, i.val / 8 * 8, 0] := by
  show ![g, (Scalar.shli (Scalar.shrsi (BitVec.ofNat 32 i.val) 3#32) 3#32).toNat, 0] = _
  rw [block_word]

theorem block_dvd (i : Fin 512) : 8 ∣ (Scalar.shli (Scalar.shrsi (BitVec.ofNat 32 i.val) 3#32) 3#32).toNat := by
  rw [block_word]; exact ⟨_, Nat.mul_comm _ _⟩

theorem block_inb {g : ℕ} (hg : g < 8) (i : Fin 512) (a : Fin 3) : blkOff g (BitVec.ofNat 32 i.val) a + S1x8x512.size a ≤ S8x512x512.size a := by
  have h := i.isLt
  rw [blkOff_nat]
  fin_cases a
  · show g + 1 ≤ 8; omega
  · show i.val / 8 * 8 + 8 ≤ 512; omega
  · show 0 + 512 ≤ 512; omega

/-- A property of the words of tokens holds of what `firstMax` makes. -/
theorem of_tokens {P : BitVec 32 → Prop} (h : ∀ i : Fin 512, P (BitVec.ofNat 32 i.val)) (x : FVec Ideal S1x512 .f32) :
    P (Scalar.fptosi 32 (firstMax k0_pay1 x)) := by
  obtain ⟨c, -, e⟩ := firstMax_exists x
  rw [e]; exact h c

section Checks
variable (i : grid0.Coords) (t : Fin 512)
theorem chk1 : k0_chk1 i (BitVec.ofNat 32 t.val) := ⟨fun _ => block_dvd t, fun _ => block_inb (g := 0) (by norm_num) t, fun _ => block_dvd t⟩
theorem chk2 : k0_chk2 i (BitVec.ofNat 32 t.val) := ⟨fun _ => block_dvd t, fun _ => block_inb (g := 0) (by norm_num) t⟩
theorem chk3 : k0_chk3 i (BitVec.ofNat 32 t.val) := ⟨fun _ => block_dvd t, fun _ => block_inb (g := 1) (by norm_num) t, fun _ => block_dvd t⟩
theorem chk4 : k0_chk4 i (BitVec.ofNat 32 t.val) := ⟨fun _ => block_dvd t, fun _ => block_inb (g := 1) (by norm_num) t⟩
theorem chk5 : k0_chk5 i (BitVec.ofNat 32 t.val) := ⟨fun _ => block_dvd t, fun _ => block_inb (g := 2) (by norm_num) t, fun _ => block_dvd t⟩
theorem chk6 : k0_chk6 i (BitVec.ofNat 32 t.val) := ⟨fun _ => block_dvd t, fun _ => block_inb (g := 2) (by norm_num) t⟩
theorem chk7 : k0_chk7 i (BitVec.ofNat 32 t.val) := ⟨fun _ => block_dvd t, fun _ => block_inb (g := 3) (by norm_num) t, fun _ => block_dvd t⟩
theorem chk8 : k0_chk8 i (BitVec.ofNat 32 t.val) := ⟨fun _ => block_dvd t, fun _ => block_inb (g := 3) (by norm_num) t⟩
theorem chk9 : k0_chk9 i (BitVec.ofNat 32 t.val) := ⟨fun _ => block_dvd t, fun _ => block_inb (g := 4) (by norm_num) t, fun _ => block_dvd t⟩
theorem chk10 : k0_chk10 i (BitVec.ofNat 32 t.val) := ⟨fun _ => block_dvd t, fun _ => block_inb (g := 4) (by norm_num) t⟩
theorem chk11 : k0_chk11 i (BitVec.ofNat 32 t.val) := ⟨fun _ => block_dvd t, fun _ => block_inb (g := 5) (by norm_num) t, fun _ => block_dvd t⟩
theorem chk12 : k0_chk12 i (BitVec.ofNat 32 t.val) := ⟨fun _ => block_dvd t, fun _ => block_inb (g := 5) (by norm_num) t⟩
theorem chk13 : k0_chk13 i (BitVec.ofNat 32 t.val) := ⟨fun _ => block_dvd t, fun _ => block_inb (g := 6) (by norm_num) t, fun _ => block_dvd t⟩
theorem chk14 : k0_chk14 i (BitVec.ofNat 32 t.val) := ⟨fun _ => block_dvd t, fun _ => block_inb (g := 6) (by norm_num) t⟩
theorem chk15 : k0_chk15 i (BitVec.ofNat 32 t.val) := ⟨fun _ => block_dvd t, fun _ => block_inb (g := 7) (by norm_num) t, fun _ => block_dvd t⟩
theorem chk16 : k0_chk16 i (BitVec.ofNat 32 t.val) := ⟨fun _ => block_dvd t, fun _ => block_inb (g := 7) (by norm_num) t⟩
end Checks

/-! ## A struck row of the slab -/

theorem blk_idx {g : Fin 8} {i : Fin 512} (inb : ∀ a, blkOff g.val (BitVec.ofNat 32 i.val) a + S1x8x512.size a ≤ S8x512x512.size a)
    (q : Fin 8) (c : Fin 512) (r : Fin 512) (hr : r.val = i.val / 8 * 8 + q.val) :
    (Rect.unit (s := S8x512x512) (blkOff g.val (BitVec.ofNat 32 i.val)) S1x8x512.size inb).toLoadRect.idx (ix3 0 q c) = ix3 g r c := by
  funext a
  apply Fin.ext
  show blkOff g.val (BitVec.ofNat 32 i.val) a + 1 * ((ix3 0 q c : S1x8x512.Idx) a).val = ((ix3 g r c : S8x512x512.Idx) a).val
  rw [blkOff_nat]
  fin_cases a
  · show g.val + 1 * 0 = g.val; omega
  · show i.val / 8 * 8 + 1 * q.val = r.val; omega
  · show 0 + 1 * c.val = c.val; omega

/-- Reading the slab after the block of row `i` of batch `g` was stored back with the row struck out. -/
theorem read_struck {κ : Kind} (v : View sig κ .vmem S8x512x512 .f32) {v3 : IVec S8x1 32} (h3 : ∀ r : Fin 8, v3 (ix2 r 0) = BitVec.ofNat 32 r.val)
    (g : Fin 8) (i : Fin 512) (inb : ∀ a, blkOff g.val (BitVec.ofNat 32 i.val) a + S1x8x512.size a ≤ S8x512x512.size a)
    (f : v.ty.Contents (Elt Ideal)) (L : List (View.Piece (Elt Ideal) S8x512x512 .f32)) (g' : Fin 8) (r c : Fin 512) :
    v.read (Elt Ideal) (v.writes (Elt Ideal) f (⟨Rect.unit (s := S8x512x512) (blkOff g.val (BitVec.ofNat 32 i.val)) S1x8x512.size inb,
        strike v3 (BitVec.ofNat 32 i.val) (v.readAt (Elt Ideal) (Rect.unit (s := S8x512x512) (blkOff g.val (BitVec.ofNat 32 i.val)) S1x8x512.size inb).toLoadRect (v.writes (Elt Ideal) f L))⟩ :: L)) (ix3 g' r c)
      = if g' = g ∧ r = i then low else v.read (Elt Ideal) (v.writes (Elt Ideal) f L) (ix3 g' r c) := by
  have hr := r.isLt
  have hi := i.isLt
  by_cases hg : g' = g
  · subst hg
    by_cases hb : r.val / 8 = i.val / 8
    · rw [View.read_writes_cons_unit_of_mem v f inb _ L (ix3 g' r c) (ix3 0 ⟨r.val % 8, Nat.mod_lt _ (by norm_num)⟩ c) (blkOff_nat g'.val i) (fun a => by
        fin_cases a
        · show g'.val = g'.val + 0; omega
        · show r.val = i.val / 8 * 8 + r.val % 8; omega
        · show c.val = 0 + c.val; omega)]
      rw [strike_apply h3, View.readAt_apply, blk_idx inb _ c r (by show r.val = i.val / 8 * 8 + r.val % 8; omega)]
      have : r.val % 8 = i.val % 8 ↔ g' = g' ∧ r = i := by rw [Fin.ext_iff (a := r)]; omega
      simp only [this]
    · rw [View.read_writes_cons_unit_of_not_mem v f inb _ L (ix3 g' r c) (blkOff_nat g'.val i) (1 : Fin 3)
        (by show r.val < i.val / 8 * 8 ∨ i.val / 8 * 8 + 8 ≤ r.val; omega), if_neg]
      rintro ⟨-, rfl⟩; exact hb rfl
  · have hv : g'.val ≠ g.val := fun e => hg (Fin.ext e)
    rw [View.read_writes_cons_unit_of_not_mem v f inb _ L (ix3 g' r c) (blkOff_nat g.val i) (0 : Fin 3)
        (by show g'.val < g.val ∨ g.val + 1 ≤ g'.val; omega), if_neg]
    rintro ⟨e, -⟩; exact hg e

/-! ## The invariant -/

/-- Batch `g`'s part of the slab and of the carried value is its state after `n` picks. -/
structure At (sc : Fin 512 → Fin 512 → EReal) (n : ℕ) (g : Fin 8) (X : Vec Ideal S8x512x512 .f32) (s : Carry Ideal) : Prop where
  slab : ∀ r c, X (ix3 g r c) = struck sc (avail sc n) r c
  pen : ∀ c : Fin 512, s.1 (ix2 g c) = penalty (avail sc n) c
  fst : ∀ p : Fin 128, s.2.1 (ix2 g p) = if p.val < n then BitVec.ofNat 32 (pair sc p.val).1.val else 0#32
  snd : ∀ p : Fin 128, s.2.2 (ix2 g p) = if p.val < n then BitVec.ofNat 32 (pair sc p.val).2.val else 0#32

/-- The iotas the loop is given. -/
structure Iotas (v0 : IVec S1x512 32) (v2 : IVec S1x128 32) (v3 v4 : IVec S8x1 32) : Prop where
  h0 : ∀ c : Fin 512, v0 (ix2 0 c) = BitVec.ofNat 32 c.val
  h2 : ∀ p : Fin 128, v2 (ix2 0 p) = BitVec.ofNat 32 p.val
  h3 : ∀ r : Fin 8, v3 (ix2 r 0) = BitVec.ofNat 32 r.val
  h4 : ∀ r : Fin 8, v4 (ix2 r 0) = BitVec.ofNat 32 r.val

theorem struck_succ (sc : Fin 512 → Fin 512 → EReal) (n : ℕ) (r c : Fin 512) :
    struck sc (avail sc (n + 1)) r c = if r = (pair sc n).2 then low else if r = (pair sc n).1 then low else struck sc (avail sc n) r c := by
  unfold struck
  simp only [mem_avail_succ]
  by_cases h1 : r = (pair sc n).2 <;> by_cases h2 : r = (pair sc n).1 <;> simp [h1, h2]

theorem penalty_succ (sc : Fin 512 → Fin 512 → EReal) (n : ℕ) (c : Fin 512) :
    penalty (avail sc (n + 1)) c = if c = (pair sc n).1 ∨ c = (pair sc n).2 then low else penalty (avail sc n) c := by
  unfold penalty
  simp only [mem_avail_succ]
  by_cases h1 : c = (pair sc n).2 <;> by_cases h2 : c = (pair sc n).1 <;> simp [h1, h2]

theorem slice_pen (pen : FVec Ideal S8x512 .f32) (g : Fin 8) (hpen : S8x512.Slices ![g.val, 0] S1x512) (c : Fin 512) :
    extractStridedSlice S1x512 ![g.val, 0] pen hpen (ix2 0 c) = pen (ix2 g c) := by
  show pen _ = pen _
  congr 1
  funext a
  apply Fin.ext
  fin_cases a
  · show g.val + 0 = g.val; omega
  · show 0 + c.val = c.val; omega

theorem groupOut_at {κ : Kind} {v : View sig κ .vmem S8x512x512 .f32} {v0 : IVec S1x512 32} {v2 : IVec S1x128 32} {v3 v4 : IVec S8x1 32}
    (hio : Iotas v0 v2 v3 v4) {g : Fin 8} {hslab : ∀ a, (![g.val, 0, 0] : Fin 3 → ℕ) a + S1x512x512.size a ≤ S8x512x512.size a}
    {hpen : S8x512.Slices ![g.val, 0] S1x512} {n : ℕ} (hn : n < 128) {s s' : Carry Ideal} {f f' : v.ty.Contents (Elt Ideal)}
    (hout : GroupOut v v0 v2 v3 v4 g.val hslab hpen (BitVec.ofNat 32 n) s f s' f')
    {sc : Fin 512 → Fin 512 → EReal} (hsc : Good sc) (hat : At sc n g (v.read (Elt Ideal) f) s) :
    At sc (n + 1) g (v.read (Elt Ideal) f') s'
      ∧ ∀ (g' : Fin 8) (sc' : Fin 512 → Fin 512 → EReal) (m : ℕ), g' ≠ g → At sc' m g' (v.read (Elt Ideal) f) s → At sc' m g' (v.read (Elt Ideal) f') s' := by
  obtain ⟨i, j, hi, hj, ei, ej, ef, es⟩ := hout
  have hA := avail_nonempty sc hn.le
  have hp : IsPick sc (avail sc n) (pair sc n) := pick_spec sc hA
  -- the first index
  obtain ⟨a, hca, ea⟩ := firstMax_exists (colScore (extractStridedSlice S1x512 ![g.val, 0] s.1 hpen)
      (v.readAt (Elt Ideal) (Rect.unit (s := S8x512x512) ![g.val, 0, 0] S1x512x512.size hslab).toLoadRect f))
  have ha : a = (pair sc n).1 := colPick hsc hA (fun c => by
    rw [colScore_apply, slice_pen, hat.pen]
    congr 1
    refine Finset.sup_congr rfl fun r _ => ?_
    rw [← hat.slab, View.readAt_apply]
    congr 1
    funext x
    apply Fin.ext
    fin_cases x
    · show g.val + 1 * 0 = g.val; omega
    · show 0 + 1 * r.val = r.val; omega
    · show 0 + 1 * c.val = c.val; omega) hca
  rw [ea] at ei
  subst ei
  -- the second
  obtain ⟨b, hcb, eb⟩ := firstMax_exists (rowScore v3 (extractStridedSlice S1x512 ![g.val, 0] s.1 hpen) (BitVec.ofNat 32 a.val)
      (v.readAt (Elt Ideal) (Rect.unit (s := S8x512x512) (blkOff g.val (BitVec.ofNat 32 a.val)) S1x8x512.size hi).toLoadRect f))
  have hrow : ∀ c, v.readAt (Elt Ideal) (Rect.unit (s := S8x512x512) (blkOff g.val (BitVec.ofNat 32 a.val)) S1x8x512.size hi).toLoadRect f
      (ix3 0 ⟨a.val % 8, Nat.mod_lt _ (by norm_num)⟩ c) = sc (pair sc n).1 c := fun c => by
    rw [View.readAt_apply, blk_idx hi _ c a (by show a.val = a.val / 8 * 8 + a.val % 8; omega), hat.slab, struck, ha, if_pos hp.fst_mem]
  have hb : b = (pair sc n).2 := rowPick hsc hA (fun c => by
    rw [rowScore_apply hio.h3 _ a _ c (by rw [hrow]; exact hsc.lower _ _), slice_pen, hat.pen, hrow]; rfl) hcb
  rw [eb] at ej
  subst ej
  have hread : ∀ g' r c, v.read (Elt Ideal) f' (ix3 g' r c)
      = if g' = g ∧ r = b then low else if g' = g ∧ r = a then low else v.read (Elt Ideal) f (ix3 g' r c) := fun g' r c => by
    rw [ef, read_struck v hio.h3 g b hj f _ g' r c]
    congr 1
    exact read_struck v hio.h3 g a hi f [] g' r c
  have e1 : s'.1 = putPen v0 v4 (BitVec.ofNat 32 g.val) (BitVec.ofNat 32 a.val) (BitVec.ofNat 32 b.val) s.1 := congrArg Prod.fst es
  have e2 : s'.2.1 = putPick v2 v4 (BitVec.ofNat 32 g.val) (BitVec.ofNat 32 n) (BitVec.ofNat 32 a.val) s.2.1 := congrArg (fun z => z.2.1) es
  have e3 : s'.2.2 = putPick v2 v4 (BitVec.ofNat 32 g.val) (BitVec.ofNat 32 n) (BitVec.ofNat 32 b.val) s.2.2 := congrArg (fun z => z.2.2) es
  refine ⟨⟨fun r c => ?_, fun c => ?_, fun p => ?_, fun p => ?_⟩, fun g' sc' m hg' h => ⟨fun r c => ?_, fun c => ?_, fun p => ?_, fun p => ?_⟩⟩
  · rw [hread, struck_succ, ← ha, ← hb, hat.slab]; simp only [_root_.true_and]
  · rw [e1, putPen_apply hio.h0 hio.h4 g.isLt, penalty_succ, ← ha, ← hb, hat.pen]; simp only [_root_.true_and]
  · rw [e2, putPick_apply hio.h2 hio.h4 g.isLt hn, hat.fst]
    by_cases h1 : p.val = n
    · simp [h1, ha]
    · simp [h1, show p.val < n + 1 ↔ p.val < n by omega]
  · rw [e3, putPick_apply hio.h2 hio.h4 g.isLt hn, hat.snd]
    by_cases h1 : p.val = n
    · simp [h1, hb]
    · simp [h1, show p.val < n + 1 ↔ p.val < n by omega]
  · rw [hread, if_neg (fun e => hg' e.1), if_neg (fun e => hg' e.1), h.slab]
  · rw [e1, putPen_apply hio.h0 hio.h4 g.isLt, if_neg (fun e => hg' (Fin.ext e.1)), h.pen]
  · rw [e2, putPick_apply hio.h2 hio.h4 g.isLt hn, if_neg (fun e => hg' (Fin.ext e.1)), h.fst]
  · rw [e3, putPick_apply hio.h2 hio.h4 g.isLt hn, if_neg (fun e => hg' (Fin.ext e.1)), h.snd]

end Cert.KernelIdeal.Gen

end
-- ==== Proof.Select.lean ====
/- The selection loop, over the extended reals: a block's eight batches from their scores to their 128 pairs each. -/
module

public import proofs.«01_k».proof.Proof.Trip

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Greedy

local notation "𝕄" => MT nD τ sig Unit (Elt Ideal) ℕ (UR sig nD τ) ℕ

/-- Inside trip `n`, before group `g`'s stretch: the groups below `g` are a pick ahead. -/
def TripAt (sc : Fin 8 → Fin 512 → Fin 512 → EReal) (n g : ℕ) (X : Vec Ideal S8x512x512 .f32) (s : Carry Ideal) : Prop :=
  ∀ g' : Fin 8, At (sc g') (if g'.val < g then n + 1 else n) g' X s

section Loop

variable (c : Dev nD) (arg7 : Memref sig .tc .vmem S8x512x512 .f32) (h7 : arg7.IsWhole) {v0 : IVec S1x512 32} {v2 : IVec S1x128 32} {v3 v4 : IVec S8x1 32}
  (hio : Iotas v0 v2 v3 v4) (sc : Fin 8 → Fin 512 → Fin 512 → EReal) (hsc : ∀ g, Good (sc g))

/-- The slab's buffer, related to the carried value. -/
abbrev slabAt (R : Vec Ideal S8x512x512 .f32 → Prop) : sProp 𝕄 :=
  iprop(∃ f, (arg7.view.loc (c : Thread nD τ) ↦[arg7.view.set]{fullShare} f) ∗ ⌜R (arg7.view.read (Elt Ideal) f)⌝)

include h7 hio hsc in
theorem group_step (g : Fin 8) (hslab : ∀ a, (![g.val, 0, 0] : Fin 3 → ℕ) a + S1x512x512.size a ≤ S8x512x512.size a) (hpen : S8x512.Slices ![g.val, 0] S1x512)
    (P Q : BitVec 32 → Prop) (dP : ∀ v, Decidable (P v)) (dQ : ∀ v, Decidable (Q v))
    (hP : ∀ v, P v → ∀ a, blkOff g.val v a + S1x8x512.size a ≤ S8x512x512.size a)
    (hQ : ∀ v, Q v → ∀ a, blkOff g.val v a + S1x8x512.size a ≤ S8x512x512.size a)
    (allP : ∀ i : Fin 512, P (BitVec.ofNat 32 i.val)) (allQ : ∀ i : Fin 512, Q (BitVec.ofNat 32 i.val))
    {n : ℕ} (hn : n < 128) (s : Carry Ideal) :
    slabAt c arg7 (fun X => TripAt sc n g.val X s)
      ⊢ wp Idealize.ShloMosaic.frame (wpE defs₀ Variants.none (c : Thread nD τ) none) Set.univ
          (groupProg arg7 v0 v2 v3 v4 g.val hslab hpen P Q dP dQ hP hQ (BitVec.ofNat 32 n) s)
          (fun s' => slabAt c arg7 (fun X => TripAt sc n (g.val + 1) X s')) := by
  iintro ⟨%f, H, %h⟩
  iapply (wp_wand_r Idealize.ShloMosaic.frame (wpE (defs₀ (F := Ideal)) Variants.none (c : Thread nD τ) none) Set.univ)
  isplitl [H]
  · iapply (group_run c arg7 h7 v0 v2 v3 v4 g.val hslab hpen P Q dP dQ hP hQ (of_tokens allP) (of_tokens allQ) (BitVec.ofNat 32 n) s f)
    iexact H
  · iintro %s' ⟨%f', H, %hout⟩
    iexists f'
    isplitl [H]
    · iexact H
    · ipureintro
      have h0 : At (sc g) n g (arg7.view.read (Elt Ideal) f) s := by
        have := h g
        rwa [if_neg (lt_irrefl _)] at this
      obtain ⟨h1, h2⟩ := groupOut_at hio hn hout (hsc g) h0
      intro g'
      by_cases e : g' = g
      · subst e; rw [if_pos (Nat.lt_succ_self _)]; exact h1
      · have hv : g'.val ≠ g.val := fun h => e (Fin.ext h)
        have := h2 g' (sc g') _ e (h g')
        simp only [show g'.val < g.val + 1 ↔ g'.val < g.val by omega]
        exact this

include h7 hio hsc in
/-- One trip. -/
theorem trip_step (i : grid0.Coords) (arg2 : Memref sig .tc .vmem S1x512x2048 .f32) (harg2 : arg2.IsWhole) (arg3 : Memref sig .tc .vmem S1x1x512 .f32) (harg3 : arg3.IsWhole) (arg4 : Memref sig .tc .vmem S1x8x128 .i32) (harg4 : arg4.IsWhole) (arg5 : Memref sig .tc .vmem S1x8x128 .i32) (harg5 : arg5.IsWhole) (arg6 : Memref sig .tc .vmem S1x8x512 .f32) (harg6 : arg6.IsWhole)
    (k0_h1 : k0_cond1 i = 1#1) (t : Fin k0_t1_loop.trips) (s : Carry Ideal) :
    slabAt c arg7 (fun X => TripAt sc t.val 0 X s)
      ⊢ wp Idealize.ShloMosaic.frame (wpE defs₀ Variants.none (c : Thread nD τ) none) Set.univ
          (k0_t1_body (F := Ideal) i arg2 harg2 arg3 harg3 arg4 harg4 arg5 harg5 arg6 harg6 arg7 h7 v0 v2 v3 v4 k0_h1 t s)
          (fun s' => slabAt c arg7 (fun X => TripAt sc t.val 8 X s')) := by
  have ht : t.val < 128 := t.isLt
  have hw : Scf.iv 0#32 1#32 t.val = BitVec.ofNat 32 t.val := by simp [Scf.iv]
  rw [k0_t1_body_eq_groups]
  simp only [hw, wp_bind]
  refine (group_step c arg7 h7 hio sc hsc 0 _ _ _ _ _ _ _ _ (chk1 i) (chk2 i) ht s).trans (wp_mono _ _ _ fun s => ?_)
  refine (group_step c arg7 h7 hio sc hsc 1 _ _ _ _ _ _ _ _ (chk3 i) (chk4 i) ht s).trans (wp_mono _ _ _ fun s => ?_)
  refine (group_step c arg7 h7 hio sc hsc 2 _ _ _ _ _ _ _ _ (chk5 i) (chk6 i) ht s).trans (wp_mono _ _ _ fun s => ?_)
  refine (group_step c arg7 h7 hio sc hsc 3 _ _ _ _ _ _ _ _ (chk7 i) (chk8 i) ht s).trans (wp_mono _ _ _ fun s => ?_)
  refine (group_step c arg7 h7 hio sc hsc 4 _ _ _ _ _ _ _ _ (chk9 i) (chk10 i) ht s).trans (wp_mono _ _ _ fun s => ?_)
  refine (group_step c arg7 h7 hio sc hsc 5 _ _ _ _ _ _ _ _ (chk11 i) (chk12 i) ht s).trans (wp_mono _ _ _ fun s => ?_)
  refine (group_step c arg7 h7 hio sc hsc 6 _ _ _ _ _ _ _ _ (chk13 i) (chk14 i) ht s).trans (wp_mono _ _ _ fun s => ?_)
  exact group_step c arg7 h7 hio sc hsc 7 _ _ _ _ _ _ _ _ (chk15 i) (chk16 i) ht s

/-- The loop's invariant before trip `k`. -/
abbrev selInv (k : ℕ) (s : Carry Ideal) : sProp 𝕄 := slabAt c arg7 (fun X => ∀ g : Fin 8, At (sc g) k g X s)

include h7 hio hsc in
theorem selInv_step (i : grid0.Coords) (arg2 : Memref sig .tc .vmem S1x512x2048 .f32) (harg2 : arg2.IsWhole) (arg3 : Memref sig .tc .vmem S1x1x512 .f32) (harg3 : arg3.IsWhole) (arg4 : Memref sig .tc .vmem S1x8x128 .i32) (harg4 : arg4.IsWhole) (arg5 : Memref sig .tc .vmem S1x8x128 .i32) (harg5 : arg5.IsWhole) (arg6 : Memref sig .tc .vmem S1x8x512 .f32) (harg6 : arg6.IsWhole)
    (k0_h1 : k0_cond1 i = 1#1) (t : Fin k0_t1_loop.trips) (s : Carry Ideal) :
    selInv c arg7 sc t.val s
      ⊢ wp Idealize.ShloMosaic.frame (wpE defs₀ Variants.none (c : Thread nD τ) none) Set.univ
          (k0_t1_body (F := Ideal) i arg2 harg2 arg3 harg3 arg4 harg4 arg5 harg5 arg6 harg6 arg7 h7 v0 v2 v3 v4 k0_h1 t s)
          (selInv c arg7 sc (t.val + 1)) := by
  have e : ∀ (X : Vec Ideal S8x512x512 .f32) (s : Carry Ideal), (∀ g : Fin 8, At (sc g) t.val g X s) = TripAt sc t.val 0 X s := fun X s => by
    unfold TripAt; simp only [Nat.not_lt_zero, if_false]
  have e' : ∀ (X : Vec Ideal S8x512x512 .f32) (s : Carry Ideal), (∀ g : Fin 8, At (sc g) (t.val + 1) g X s) = TripAt sc t.val 8 X s := fun X s => by
    unfold TripAt; simp only [Fin.is_lt, if_true]
  have h := trip_step c arg7 h7 hio sc hsc i arg2 harg2 arg3 harg3 arg4 harg4 arg5 harg5 arg6 harg6 k0_h1 t s
  unfold selInv
  simp only [e, e']
  exact h

end Loop

end Cert.KernelIdeal.Gen

end
-- ==== Proof.Region0.lean ====
module

public import proofs.«01_k».proof.Proof.Gen.KernelIdeal.Points
public import proofs.«01_k».proof.Proof.Select
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring

/-! # The call `greedy_select`: its body, its proof data and its obligation

The grid is 2 × 8.  At each point the body fills one slab of the scratch with the scores of one batch; at the last
point of a row it runs the selection loop over the eight slabs and stores the picks.  Between the points the scratch
carries the slabs filled so far. -/

@[expose] public section

set_option maxRecDepth 16384

noncomputable section

namespace Cert.KernelIdeal.Call

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Greedy

local notation "𝕄" => MT nD τ sig Unit (Elt Ideal) ℕ (UR sig nD τ) ℕ

/-- The scores a grid point computes from its two blocks. -/
def scoreOf (x0 : Vec Ideal S1x512x2048 .f32) (x1 : Vec Ideal S1x1x512 .f32) (r q : Fin 512) : EReal :=
  k0_pay2 x0 x1 (ix3 0 r q)

/-- The slabs below `n` hold their batches' scores. -/
def Filled (sc : Fin 8 → Fin 512 → Fin 512 → EReal) (n : ℕ) (X : Vec Ideal S8x512x512 .f32) : Prop :=
  ∀ g : Fin 8, g.val < n → ∀ r q, X (ix3 g r q) = sc g r q

/-- The picks' first tokens, as the call stores them. -/
def firsts (sc : Fin 8 → Fin 512 → Fin 512 → EReal) : Vec Ideal S1x8x128 .i32 := fun y =>
  BitVec.ofNat 32 (pair (sc (y 1)) (y 2).val).1.val
/-- The picks' second tokens. -/
def seconds (sc : Fin 8 → Fin 512 → Fin 512 → EReal) : Vec Ideal S1x8x128 .i32 := fun y =>
  BitVec.ofNat 32 (pair (sc (y 1)) (y 2).val).2.val
/-- One where the token is never picked, zero where it is. -/
def leftAt (sc : Fin 512 → Fin 512 → EReal) (q : Fin 512) : EReal := if q ∈ avail sc 128 then 1 else 0
def lefts (sc : Fin 8 → Fin 512 → Fin 512 → EReal) : Vec Ideal S1x8x512 .f32 := fun y => leftAt (sc (y 1)) (y 2)

theorem iotas : Iotas (iota .tc S1x512 32 [1] iota_S1x512_d1_w32) (iota .tc S1x128 32 [1] iota_S1x128_d1_w32)
    (iota .tc S8x1 32 [0] iota_S8x1_d0_w32) (iota .tc S8x1 32 [0] iota_S8x1_d0_w32) where
  h0 c := by pointwise []
  h2 c := by pointwise []
  h3 c := by pointwise []
  h4 c := by pointwise []

/-- Before the first trip. -/
theorem at_start {sc : Fin 8 → Fin 512 → Fin 512 → EReal} {X : Vec Ideal S8x512x512 .f32} (h : Filled sc 8 X) (g : Fin 8) :
    At (sc g) 0 g X (k0_pay3, k0_pay4, k0_pay5) where
  slab r q := by
    rw [h g g.isLt r q]; simp [struck, avail]
  pen q := by
    simp only [penalty, avail, Finset.mem_univ, if_true]
    exact Ideal.ofBits_zero .f32
  fst p := rfl
  snd p := rfl

theorem firsts_eq {sc : Fin 8 → Fin 512 → Fin 512 → EReal} {X : Vec Ideal S8x512x512 .f32} {s : Carry Ideal}
    (h : ∀ g, At (sc g) 128 g X s) : k0_pay7 s.2.1 = firsts sc := by
  funext y
  rw [eq_ix3 (n0 := 1) (n1 := 8) (n2 := 128) y]
  generalize (y 0 : Fin 1) = a
  generalize (y 1 : Fin 8) = g
  obtain ⟨p, hp⟩ : ∃ p : Fin 128, p = y 2 := ⟨_, rfl⟩
  rw [← hp]
  pointwise [k0_pay7]
  rw [(h g).fst p, if_pos p.isLt]
  rfl

theorem seconds_eq {sc : Fin 8 → Fin 512 → Fin 512 → EReal} {X : Vec Ideal S8x512x512 .f32} {s : Carry Ideal}
    (h : ∀ g, At (sc g) 128 g X s) : k0_pay8 s.2.2 = seconds sc := by
  funext y
  rw [eq_ix3 (n0 := 1) (n1 := 8) (n2 := 128) y]
  generalize (y 0 : Fin 1) = a
  generalize (y 1 : Fin 8) = g
  obtain ⟨p, hp⟩ : ∃ p : Fin 128, p = y 2 := ⟨_, rfl⟩
  rw [← hp]
  pointwise [k0_pay8]
  rw [(h g).snd p, if_pos p.isLt]
  rfl

theorem low_neg : low < 0 := by
  rw [low, ← EReal.coe_zero, EReal.coe_lt_coe_iff]; norm_num

theorem flag (sc : Fin 512 → Fin 512 → EReal) (q : Fin 512) : (if penalty (avail sc 128) q = 0 then (1 : EReal) else 0) = leftAt sc q := by
  unfold penalty leftAt
  by_cases hq : q ∈ avail sc 128
  · rw [if_pos hq, if_pos rfl, if_pos hq]
  · rw [if_neg hq, if_neg (fun e => absurd e (ne_of_lt low_neg)), if_neg hq]

theorem lefts_eq {sc : Fin 8 → Fin 512 → Fin 512 → EReal} {X : Vec Ideal S8x512x512 .f32} {s : Carry Ideal}
    (h : ∀ g, At (sc g) 128 g X s) : k0_pay9 s.1 = lefts sc := by
  funext y
  rw [eq_ix3 (n0 := 1) (n1 := 8) (n2 := 512) y]
  generalize (y 0 : Fin 1) = a
  generalize (y 1 : Fin 8) = g
  generalize (y 2 : Fin 512) = p
  pointwise [k0_pay9]
  rw [(h g).pen p]
  show _ = leftAt (sc g) p
  exact flag (sc g) p

theorem off1 (i : grid0.Coords) : k0_off1 i = ![(i 1).val, 0, 0] := by
  have h : (i 1).val < 8 := (i 1).isLt
  unfold k0_off1
  generalize (i 1).val = n at h ⊢
  interval_cases n <;> rfl

/-- Storing a point's scores fills one slab more. -/
theorem filled_store {κ : Kind} (v : View sig κ .vmem S8x512x512 .f32) (i : grid0.Coords) (f : v.ty.Contents (Elt Ideal))
    (P : Vec Ideal S1x512x512 .f32) {sc : Fin 8 → Fin 512 → Fin 512 → EReal} (hf : Filled sc (i 1).val (v.read (Elt Ideal) f))
    (hP : ∀ r q, P (ix3 0 r q) = sc (i 1) r q) :
    Filled sc ((i 1).val + 1) (v.read (Elt Ideal) (v.writes (Elt Ideal) f [⟨Rect.unit (s := S8x512x512) (k0_off1 i) S1x512x512.size (k0_off1_inb i), P⟩])) := by
  intro g hg r q
  by_cases e : g.val = (i 1).val
  · rw [View.read_writes_cons_unit_of_mem v f (k0_off1_inb i) _ [] (ix3 g r q) (ix3 0 r q) (off1 i) (fun a => by
        fin_cases a
        · show g.val = (i 1).val + 0; omega
        · show r.val = 0 + r.val; omega
        · show q.val = 0 + q.val; omega), hP]
    rw [show (i 1 : Fin 8) = g from Fin.ext e.symm]
  · rw [View.read_writes_cons_unit_of_not_mem v f (k0_off1_inb i) _ [] (ix3 g r q) (off1 i) (0 : Fin 3)
        (by show g.val < (i 1).val ∨ (i 1).val + 1 ≤ g.val; omega)]
    exact hf g (by omega) r q

theorem load_x {κ : Kind} (v : View sig κ .vmem S1x512x2048 .f32) (f : v.ty.Contents (Elt Ideal)) :
    v.readAt (Elt Ideal) (Rect.unit (s := S1x512x2048) ![0, 0, 0] S1x512x2048.size inb_S1x512x2048_S1x512x2048_0_0_0).toLoadRect f = v.read (Elt Ideal) f :=
  View.ld_unit_lit (S := S1x512x2048) (off := ![0, 0, 0]) inb_S1x512x2048_S1x512x2048_0_0_0 (v.read (Elt Ideal) f) (fun a => by fin_cases a <;> rfl)
theorem load_w {κ : Kind} (v : View sig κ .vmem S1x1x512 .f32) (f : v.ty.Contents (Elt Ideal)) :
    v.readAt (Elt Ideal) (Rect.unit (s := S1x1x512) ![0, 0, 0] S1x1x512.size inb_S1x1x512_S1x1x512_0_0_0).toLoadRect f = v.read (Elt Ideal) f :=
  View.ld_unit_lit (S := S1x1x512) (off := ![0, 0, 0]) inb_S1x1x512_S1x1x512_0_0_0 (v.read (Elt Ideal) f) (fun a => by fin_cases a <;> rfl)

set_option maxHeartbeats 1000000 in
/-- The body at a point that is not the last of its row: one slab more, the output buffers as found. -/
theorem fill_run (c : Dev nD) (i : grid0.Coords) (hi : ¬ k0_cond1 i = 1#1)
    (arg2 : Memref sig .tc .vmem S1x512x2048 .f32) (harg2 : arg2.IsWhole) (arg3 : Memref sig .tc .vmem S1x1x512 .f32) (harg3 : arg3.IsWhole)
    (arg4 : Memref sig .tc .vmem S1x8x128 .i32) (harg4 : arg4.IsWhole) (arg5 : Memref sig .tc .vmem S1x8x128 .i32) (harg5 : arg5.IsWhole)
    (arg6 : Memref sig .tc .vmem S1x8x512 .f32) (harg6 : arg6.IsWhole) (arg7 : Memref sig .tc .vmem S8x512x512 .f32) (harg7 : arg7.IsWhole)
    (x0 : Vec Ideal S1x512x2048 .f32) (x1 : Vec Ideal S1x1x512 .f32) (sc : Fin 8 → Fin 512 → Fin 512 → EReal) (hsc : sc (i 1) = scoreOf x0 x1)
    (K : PUnit → sProp 𝕄) :
    iprop(owns (c : Thread nD τ) arg2 fullShare x0 ∗ owns (c : Thread nD τ) arg3 fullShare x1
        ∗ slabAt c arg7 (Filled sc (i 1).val)
        ∗ (iprop(owns (c : Thread nD τ) arg2 fullShare x0 ∗ owns (c : Thread nD τ) arg3 fullShare x1 ∗ slabAt c arg7 (Filled sc ((i 1).val + 1))) -∗ K ⟨⟩))
      ⊢ wp Idealize.ShloMosaic.frame (wpE (defs₀ (F := Ideal)) Variants.none c none) Set.univ
          (cc0_greedy_select i arg2 harg2 arg3 harg3 arg4 harg4 arg5 harg5 arg6 harg6 arg7 harg7) K := by
  simp only [cc0_greedy_select_eq_skeleton]; unfold cc0_greedy_select_skel
  unfold owns
  iintro ⟨⟨%f0, %hf0, H0⟩, ⟨%f1, %hf1, H1⟩, ⟨%f, H7, %hf⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _
  isplitl [H7]
  · iexact H7
  · ipureintro
    refine filled_store arg7.view i f _ hf fun r q => ?_
    rw [hsc, load_x, load_w, scoreOf]

set_option maxHeartbeats 1000000 in
/-- The body at the last point of its row: the last slab, then the selection over the eight, stored. -/
theorem select_run (c : Dev nD) (i : grid0.Coords) (hi : k0_cond1 i = 1#1) (hi' : (i 1).val = 7)
    (arg2 : Memref sig .tc .vmem S1x512x2048 .f32) (harg2 : arg2.IsWhole) (arg3 : Memref sig .tc .vmem S1x1x512 .f32) (harg3 : arg3.IsWhole)
    (arg4 : Memref sig .tc .vmem S1x8x128 .i32) (harg4 : arg4.IsWhole) (arg5 : Memref sig .tc .vmem S1x8x128 .i32) (harg5 : arg5.IsWhole)
    (arg6 : Memref sig .tc .vmem S1x8x512 .f32) (harg6 : arg6.IsWhole) (arg7 : Memref sig .tc .vmem S8x512x512 .f32) (harg7 : arg7.IsWhole)
    (x0 : Vec Ideal S1x512x2048 .f32) (x1 : Vec Ideal S1x1x512 .f32) (sc : Fin 8 → Fin 512 → Fin 512 → EReal) (hsc : sc (i 1) = scoreOf x0 x1)
    (hgood : ∀ g, Good (sc g)) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ slabAt c arg7 (Filled sc (i 1).val)
        ∗ (iprop(owns (c : Thread nD τ) arg2 fullShare x0 ∗ owns (c : Thread nD τ) arg3 fullShare x1
            ∗ owns (c : Thread nD τ) arg4 fullShare (firsts sc) ∗ owns (c : Thread nD τ) arg5 fullShare (seconds sc) ∗ owns (c : Thread nD τ) arg6 fullShare (lefts sc)
            ∗ slabAt c arg7 (fun _ => True)) -∗ K ⟨⟩))
      ⊢ wp Idealize.ShloMosaic.frame (wpE (defs₀ (F := Ideal)) Variants.none c none) Set.univ
          (cc0_greedy_select i arg2 harg2 arg3 harg3 arg4 harg4 arg5 harg5 arg6 harg6 arg7 harg7) K := by
  simp only [cc0_greedy_select_eq_skeleton]; unfold cc0_greedy_select_skel
  unfold owns
  iintro ⟨⟨%f0, %hf0, H0⟩, ⟨%f1, %hf1, H1⟩, ⟨%d4, %f4, -, H4⟩, ⟨%d5, %f5, -, H5⟩, ⟨%d6, %f6, -, H6⟩, ⟨%f, H7, %hf⟩, Hk⟩
  subst hf0 hf1
  sl_exec
  sl_for (selInv c arg7 sc) $$ [H7]
  · intro t acc
    exact selInv_step c arg7 harg7 iotas sc hgood i arg2 harg2 arg3 harg3 arg4 harg4 arg5 harg5 arg6 harg6 hi t acc
  · iexists _
    isplitl [H7]
    · iexact H7
    · ipureintro
      refine at_start ?_
      rw [← show (i 1).val + 1 = 8 by omega]
      refine filled_store arg7.view i f _ hf fun r q => ?_
      rw [hsc, load_x, load_w, scoreOf]
  iintro %s ⟨%f7, H7, %h7⟩
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => View.cover_of_tiled [⟨_, _⟩] S1x8x128.size (by rfl) y)]
    exact (View.canon_cons_unit_lit _ _ _ (fun a => by fin_cases a <;> rfl)).trans (firsts_eq h7)
  isplitl [H5]
  · iexists _; isplitr
    swap; · iexact H5
    ipureintro
    rw [View.read_writes_eq_canon _ _ _ (fun y => View.cover_of_tiled [⟨_, _⟩] S1x8x128.size (by rfl) y)]
    exact (View.canon_cons_unit_lit _ _ _ (fun a => by fin_cases a <;> rfl)).trans (seconds_eq h7)
  isplitl [H6]
  · iexists _; isplitr
    swap; · iexact H6
    ipureintro
    rw [View.read_writes_eq_canon _ _ _ (fun y => View.cover_of_tiled [⟨_, _⟩] S1x8x512.size (by rfl) y)]
    exact (View.canon_cons_unit_lit _ _ _ (fun a => by fin_cases a <;> rfl)).trans (lefts_eq h7)
  iexists _
  isplitl [H7]
  · iexact H7
  · ipureintro; trivial

/-! ## The proof data -/

variable (V : (c : Dev nD) → (b : Ref sig .tc) → Buf (Elt Ideal) ((c : Thread nD τ).loc b))

/-- Window `w`'s block at a point, read off the array the call finds. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

theorem before0_0_of {c : Dev nD} (dat : Dat τ (Elt Ideal) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt Ideal) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The grid point of a number. -/
def pt (n : ℕ) : Fin cfg0.N := ⟨n % 16, lt_of_lt_of_eq (Nat.mod_lt _ (by norm_num)) N_0.symm⟩
theorem pt_val (t : Fin cfg0.N) : pt (8 * (t.val / 8) + t.val % 8) = t := by
  have h : t.val < 16 := lt_of_lt_of_eq t.isLt N_0
  apply Fin.ext; show (8 * (t.val / 8) + t.val % 8) % 16 = t.val; omega

/-- The scores of the eight batches of grid row `b`. -/
def rowScores (c : Dev nD) (b : ℕ) (g : Fin 8) : Fin 512 → Fin 512 → EReal :=
  scoreOf (iblk0 V c 0 (pt (8 * b + g.val))) (iblk0 V c 1 (pt (8 * b + g.val)))

def dat0 (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => firsts (rowScores V c (t.val / 8))
    | ⟨3, _⟩ => seconds (rowScores V c (t.val / 8))
    | ⟨4, _⟩ => lefts (rowScores V c (t.val / 8))
  Φ t := iprop(Pipeline.scopedRestBut spec0 c [cc0_scratch0] ∗ (∃ r, prngReg c r)
    ∗ slabAt c (Memref.whole cc0_scratch0) (Filled (rowScores V c (t.val / 8)) (t.val % 8)))
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = firsts (rowScores V c (t.val / 8)) := by dsimp only [dat0]
theorem after0_3 (c : Dev nD) (t : Fin cfg0.N) : (dat0 V c).after 3 t = seconds (rowScores V c (t.val / 8)) := by dsimp only [dat0]
theorem after0_4 (c : Dev nD) (t : Fin cfg0.N) : (dat0 V c).after 4 t = lefts (rowScores V c (t.val / 8)) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The last point of a row is where the condition holds. -/
theorem cond_iff : ∀ t : Fin cfg0.N, k0_cond1 (grid0.coords t) = 1#1 ↔ t.val % 8 = 7 :=
  (by decide +kernel : ∀ t : Fin grid0.N, k0_cond1 (grid0.coords t) = 1#1 ↔ t.val % 8 = 7)
theorem coord_one : ∀ t : Fin cfg0.N, ((grid0.coords t) 1).val = t.val % 8 :=
  (by decide +kernel : ∀ t : Fin grid0.N, ((grid0.coords t) 1).val = t.val % 8)
theorem idle_of (w : Fin cfg0.W) (hw : w = 2 ∨ w = 3 ∨ w = 4) (t : Fin cfg0.N) {b : Bool}
    (hb : (!(k0_cond1 (grid0.coords t) == 1#1)) = b) : cfg0.idle w (cfg0.grid.coords t) = b := by
  rcases hw with rfl | rfl | rfl <;> exact hb
theorem idle_true {t : Fin cfg0.N} (ht : t.val % 8 ≠ 7) : (!(k0_cond1 (grid0.coords t) == 1#1)) = true := by
  simp [cond_iff, ht]
theorem idle_false {t : Fin cfg0.N} (ht : t.val % 8 = 7) : (!(k0_cond1 (grid0.coords t) == 1#1)) = false := by
  simp [cond_iff, ht]

theorem row_scores (c : Dev nD) (t : Fin cfg0.N) :
    rowScores V c (t.val / 8) ((grid0.coords t) 1) = scoreOf (iblk0 V c 0 t) (iblk0 V c 1 t) := by
  unfold rowScores; rw [coord_one, pt_val]

theorem defs₀_row0 (t : Fin cfg0.N) :
    defs₀ (F := Ideal) .tc cfg0.body (cfg0.bodyArgs t (cfg0.slots t)) = bodyAt0 t := by
  unfold defs₀; rw [Defs.onTc_tc]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- After a point inside a row: the output buffers as they were. -/
def bodyFilled (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- After the last point of a row. -/
def bodySelected (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem phi0 (c : Dev nD) (t : Fin (cfg0.N + 1)) : (dat0 V c).Φ t = iprop(Pipeline.scopedRestBut spec0 c [cc0_scratch0] ∗ (∃ r, prngReg c r)
    ∗ slabAt c (Memref.whole cc0_scratch0) (Filled (rowScores V c (t.val / 8)) (t.val % 8))) := by dsimp only [dat0]

theorem filled_body (c : Dev nD) (t : Fin cfg0.N) (ht : t.val % 8 ≠ 7) :
    bodyPre0 V c t ⊢ wp Idealize.ShloMosaic.frame (wpE (defs₀ (F := Ideal)) Variants.none c none) Set.univ (bodyAt0 t) (fun _ => bodyFilled V c t) := by
  unfold bodyPre0 bodyFilled bodyAt0
  simp only [before0_0, before0_1]
  rw [show (dat0 V c).owesAt () t.succ = (dat0 V c).owesAt () t.castSucc from rfl, after0_0, after0_1, phi0, phi0]
  have e1 : t.succ.val / 8 = t.val / 8 := by rw [Fin.val_succ]; omega
  have e2 : t.succ.val % 8 = t.val % 8 + 1 := by rw [Fin.val_succ]; omega
  rw [e1, e2, Fin.val_castSucc]
  iintro ⟨⟨Hb, Hr, Hs⟩, Ho, ⟨%d0, H0⟩, ⟨%d1, H1⟩, H2, H3, H4⟩
  iapply (fill_run c (grid0.coords t) (fun e => ht ((cond_iff t).1 e)) _ _ _ _ _ _ _ _ _ _ _ _ (iblk0 V c 0 t) (iblk0 V c 1 t)
    (rowScores V c (t.val / 8)) (row_scores V c t) _)
  rw [coord_one]
  isplitl [H0]; · iexact H0
  isplitl [H1]; · iexact H1
  isplitl [Hs]; · iexact Hs
  iintro ⟨H0, H1, Hs⟩
  isplitl [Hb Hr Hs]
  · isplitl [Hb]; · iexact Hb
    isplitl [Hr]; · iexact Hr
    iexact Hs
  isplitl [Ho]; · iexact Ho
  isplitl [H0]; · iexact H0
  isplitl [H1]; · iexact H1
  isplitl [H2]; · iexact H2
  isplitl [H3]; · iexact H3
  iexact H4

theorem selected_body (c : Dev nD) (hgood : ∀ b g, Good (rowScores V c b g)) (t : Fin cfg0.N) (ht : t.val % 8 = 7) :
    bodyPre0 V c t ⊢ wp Idealize.ShloMosaic.frame (wpE (defs₀ (F := Ideal)) Variants.none c none) Set.univ (bodyAt0 t) (fun _ => bodySelected V c t) := by
  unfold bodyPre0 bodySelected bodyAt0
  simp only [before0_0, before0_1]
  rw [show (dat0 V c).owesAt () t.succ = (dat0 V c).owesAt () t.castSucc from rfl, after0_0, after0_1, after0_2, after0_3, after0_4, phi0, phi0]
  have e2 : t.succ.val % 8 = 0 := by rw [Fin.val_succ]; omega
  rw [e2, Fin.val_castSucc]
  iintro ⟨⟨Hb, Hr, Hs⟩, Ho, ⟨%d0, H0⟩, ⟨%d1, H1⟩, ⟨%d2, H2⟩, ⟨%d3, H3⟩, ⟨%d4, H4⟩⟩
  iapply (select_run c (grid0.coords t) ((cond_iff t).2 ht) ((coord_one t).trans ht) _ _ _ _ _ _ _ _ _ _ _ _ (iblk0 V c 0 t) (iblk0 V c 1 t)
    (rowScores V c (t.val / 8)) (row_scores V c t) (hgood _) _)
  rw [coord_one]
  isplitl [H0]; · iexact H0
  isplitl [H1]; · iexact H1
  isplitl [H2]; · iexists _; iexact H2
  isplitl [H3]; · iexists _; iexact H3
  isplitl [H4]; · iexists _; iexact H4
  isplitl [Hs]; · iexact Hs
  iintro ⟨H0, H1, H2, H3, H4, ⟨%f, Hs, -⟩⟩
  isplitl [Hb Hr Hs]
  · isplitl [Hb]; · iexact Hb
    isplitl [Hr]; · iexact Hr
    iexists f
    isplitl [Hs]; · iexact Hs
    ipureintro
    exact fun g hg => absurd hg (Nat.not_lt_zero _)
  isplitl [Ho]; · iexact Ho
  isplitl [H0]; · iexact H0
  isplitl [H1]; · iexact H1
  isplitl [H2]; · iexact H2
  isplitl [H3]; · iexact H3
  iexact H4

theorem body_obligation0 (c : Dev nD) (hgood : ∀ b g, Good (rowScores V c b g)) :
    BodyObligation (dat0 V c) (defs₀ (F := Ideal)) Variants.none () Set.univ := fun t => by
  rw [bigSep_W0, bigSep_W0, defs₀_row0]
  by_cases ht : t.val % 8 = 7
  · rw [idle_of 2 (.inl rfl) t (idle_false ht)]
    exact triple_restated (selected_body V c hgood t ht) rfl .rfl fun _ => .rfl
  · rw [idle_of 2 (.inl rfl) t (idle_true ht),
      Bool.eq_false_iff.2 (fun e => ht ((flush0_2 t).1 e)), Bool.eq_false_iff.2 (fun e => ht ((flush0_3 t).1 e)),
      Bool.eq_false_iff.2 (fun e => ht ((flush0_4 t).1 e))]
    exact triple_restated (filled_body V c t ht) rfl .rfl fun _ => .rfl

end Cert.KernelIdeal.Call

end

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

/-! # The call `pair_gather`: its body, its proof data and its obligation

Every window of this call is either read whole or stored whole at each grid point, so what the body leaves in an
output window is one payload of the blocks it reads. -/

@[expose] public section

set_option maxRecDepth 16384

noncomputable section

namespace Cert.KernelIdeal.Call

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x512x2048 := Rect.unit (s := S1x512x2048) ![0, 0, 0] S1x512x2048.size inb_S1x512x2048_S1x512x2048_0_0_0
abbrev r1_1 : Rect S1x1x128 := Rect.unit (s := S1x1x128) ![0, 0, 0] S1x1x128.size inb_S1x1x128_S1x1x128_0_0_0
abbrev r1_2 : Rect S1x128x4096 := Rect.unit (s := S1x128x4096) ![0, 0, 0] S1x128x4096.size inb_S1x128x4096_S1x128x4096_0_0_0
abbrev r1_3 : Rect S1x1x512 := Rect.unit (s := S1x1x512) ![0, 0, 0] S1x1x512.size inb_S1x1x512_S1x1x512_0_0_0
abbrev r1_4 : Rect S1x256x2048 := Rect.unit (s := S1x256x2048) ![0, 0, 0] S1x256x2048.size inb_S1x256x2048_S1x256x2048_0_0_0

/-! ## What the body leaves in each output window's buffer -/

def out1_4 (x0 : Vec F S1x512x2048 .f32) (x1 : Vec F S1x1x128 .i32) (x2 : Vec F S1x1x128 .i32) (x3 : Vec F S1x1x512 .f32) : Vec F S1x128x4096 .f32 :=
  View.canon [⟨r1_2, k1_pay3 (View.ld x0 r1_0) (View.ld x1 r1_1) (View.ld x2 r1_1)⟩]

theorem cover1_4 (p0 : Vec F S1x128x4096 .f32) (y : S1x128x4096.Idx) :
    ∃ pc ∈ ([⟨r1_2, p0⟩] : List (View.Piece (Elt F) S1x128x4096 .f32)), y ∈ pc.1.set :=
  View.cover_of_tiled [⟨r1_2, p0⟩] S1x128x4096.size (by rfl) y

def out1_5 (x0 : Vec F S1x512x2048 .f32) (x1 : Vec F S1x1x128 .i32) (x2 : Vec F S1x1x128 .i32) (x3 : Vec F S1x1x512 .f32) : Vec F S1x256x2048 .f32 :=
  View.canon [⟨r1_4, k1_pay1 (k1_pay2 (View.ld x0 r1_0)) (k1_pay4 (View.ld x3 r1_3)) (k1_pay5 (View.ld x3 r1_3))⟩]

theorem cover1_5 (p0 : Vec F S1x256x2048 .f32) (y : S1x256x2048.Idx) :
    ∃ pc ∈ ([⟨r1_4, p0⟩] : List (View.Piece (Elt F) S1x256x2048 .f32)), y ∈ pc.1.set :=
  View.cover_of_tiled [⟨r1_4, p0⟩] S1x256x2048.size (by rfl) y

/-! ## The body's triple -/

set_option maxHeartbeats 1000000 in
theorem sound_kernel1 (c : Dev nD) (E : Set ℕ) (i : grid1.Coords) (arg1 : Memref sig .tc .vmem S1x512x2048 .f32) (harg1 : arg1.IsWhole) (arg2 : Memref sig .tc .vmem S1x1x128 .i32) (harg2 : arg2.IsWhole) (arg3 : Memref sig .tc .vmem S1x1x128 .i32) (harg3 : arg3.IsWhole) (arg4 : Memref sig .tc .vmem S1x1x512 .f32) (harg4 : arg4.IsWhole) (arg5 : Memref sig .tc .vmem S1x128x4096 .f32) (harg5 : arg5.IsWhole) (arg6 : Memref sig .tc .vmem S1x256x2048 .f32) (harg6 : arg6.IsWhole)
    (x0 : Vec F S1x512x2048 .f32) (x1 : Vec F S1x1x128 .i32) (x2 : Vec F S1x1x128 .i32) (x3 : Vec F S1x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1_pair_gather i arg1 harg1 arg2 harg2 arg3 harg3 arg4 harg4 arg5 harg5 arg6 harg6) K := by
  simp only [cc1_pair_gather_eq_skeleton]; unfold cc1_pair_gather_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Call

end

end
-- ==== Proof.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

/-! # The call `merge_mlp`: its body, its proof data and its obligation

Every window of this call is either read whole or stored whole at each grid point, so what the body leaves in an
output window is one payload of the blocks it reads. -/

@[expose] public section

set_option maxRecDepth 16384

noncomputable section

namespace Cert.KernelIdeal.Call

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x4096 := Rect.unit (s := S512x4096) ![0, 0] S512x4096.size inb_S512x4096_S512x4096_0_0
abbrev r2_1 : Rect S4096x2048 := Rect.unit (s := S4096x2048) ![0, 0] S4096x2048.size inb_S4096x2048_S4096x2048_0_0
abbrev r2_2 : Rect S1x2048 := Rect.unit (s := S1x2048) ![0, 0] S1x2048.size inb_S1x2048_S1x2048_0_0
abbrev r2_3 : Rect S2048x2048 := Rect.unit (s := S2048x2048) ![0, 0] S2048x2048.size inb_S2048x2048_S2048x2048_0_0
abbrev r2_4 : Rect S512x2048 := Rect.unit (s := S512x2048) ![0, 0] S512x2048.size inb_S512x2048_S512x2048_0_0

/-! ## What the body leaves in each output window's buffer -/

def out2_5 (x0 : Vec F S512x4096 .bf16) (x1 : Vec F S4096x2048 .bf16) (x2 : Vec F S1x2048 .f32) (x3 : Vec F S2048x2048 .bf16) (x4 : Vec F S1x2048 .f32) : Vec F S512x2048 .f32 :=
  View.canon [⟨r2_4, k2_pay1 (View.ld x0 r2_0) (View.ld x1 r2_1) (View.ld x2 r2_2) (View.ld x3 r2_3) (View.ld x4 r2_2)⟩]

theorem cover2_5 (p0 : Vec F S512x2048 .f32) (y : S512x2048.Idx) :
    ∃ pc ∈ ([⟨r2_4, p0⟩] : List (View.Piece (Elt F) S512x2048 .f32)), y ∈ pc.1.set :=
  View.cover_of_tiled [⟨r2_4, p0⟩] S512x2048.size (by rfl) y

/-! ## The body's triple -/

set_option maxHeartbeats 1000000 in
theorem sound_kernel2 (c : Dev nD) (E : Set ℕ) (i : grid2.Coords) (arg1 : Memref sig .tc .vmem S512x4096 .bf16) (harg1 : arg1.IsWhole) (arg2 : Memref sig .tc .vmem S4096x2048 .bf16) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole)
    (x0 : Vec F S512x4096 .bf16) (x1 : Vec F S4096x2048 .bf16) (x2 : Vec F S1x2048 .f32) (x3 : Vec F S2048x2048 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_merge_mlp i arg1 harg1 arg2 harg2 arg3 harg3 arg4 harg4 arg5 harg5 arg6 harg6) K := by
  simp only [cc2_merge_mlp_eq_skeleton]; unfold cc2_merge_mlp_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Call

end

end
-- ==== Proof.Run.lean ====
module

public import proofs.«01_k».proof.Proof.Gen.KernelIdeal.Regions
public import proofs.«01_k».proof.Proof.Region0
public import proofs.«01_k».proof.Proof.Region1
public import proofs.«01_k».proof.Proof.Region2
public import Idealize.ShloMosaic.Lib.Pipeline.RegionsLoop
public import Idealize.ShloMosaic.Lib.Pipeline.FrameSuffix
public import Idealize.ShloMosaic.Lib.WordCmp

/-! # The run of the whole program

The contents of every buffer between two items of @main, as a fold from the launch contents; the three calls as
segments over those contents; and the run: it ends, the result holds the last boundary's contents, the arguments are
as launched, and every counter is zero. -/

@[expose] public section

set_option maxRecDepth 16384

noncomputable section

namespace Cert.KernelIdeal.Call

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Greedy

local notation "𝕄" => MT nD τ sig Unit (Elt Ideal) ℕ (UR sig nD τ) ℕ

variable (m : (ℓ : Loc nD τ sig) → Buf (Elt Ideal) ℓ) (ρ : Dev nD → PrngReg)

/-- @main's argument arrays. -/
abbrev argRefs : List (Ref sig .tc) := [main_arg0, main_arg1, main_arg2, main_arg3, main_arg4, main_arg5, main_arg6, main_arg7, main_arg8]

/-! ## The contents at each boundary -/

/-- At the first call's entry. -/
abbrev B5 : Dev nD → Valuation τ sig (Elt Ideal) := fun c => Gen.V5 m c
abbrev U5 : (c : Dev nD) → (b : Ref sig .tc) → Buf (Elt Ideal) ((c : Thread nD τ).loc b) := fun c b => B5 m c b

theorem hostOps0_args : ∀ a ∈ argRefs, a ∉ hostOps0_W := ListAll.forall_mem_of_all_decide (by decide +kernel)
theorem hostOps0_1_args : ∀ a ∈ argRefs, a ∉ hostOps0_1_W := ListAll.forall_mem_of_all_decide (by decide +kernel)
theorem hostOps0_2_args : ∀ a ∈ argRefs, a ∉ hostOps0_2_W := ListAll.forall_mem_of_all_decide (by decide +kernel)
theorem hostOps0_3_args : ∀ a ∈ argRefs, a ∉ hostOps0_3_W := ListAll.forall_mem_of_all_decide (by decide +kernel)
theorem hostOps0_4_args : ∀ a ∈ argRefs, a ∉ hostOps0_4_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
theorem hostOps3_args : ∀ a ∈ argRefs, a ∉ hostOps3_W := ListAll.forall_mem_of_all_decide (by decide +kernel)
theorem B5_args (c : Dev nD) : ∀ a ∈ argRefs, B5 m c (Proc.devRef .tc a) = m ((c : Thread nD τ).loc a) := fun a ha =>
  (Gen.V5_of m c a (hostOps0_4_args a ha)).trans ((Gen.V4_of m c a (hostOps0_3_args a ha)).trans ((Gen.V3_of m c a (hostOps0_2_args a ha)).trans
    ((Gen.V2_of m c a (hostOps0_1_args a ha)).trans (Gen.V1_of m c a (hostOps0_args a ha)))))

/-- After call 0: its arrays at what the write-backs leave, every other buffer as entered. -/
def B6 (c : Dev nD) : Valuation τ sig (Elt Ideal) :=
  Pipeline.withArrays spec0 c (B5 m c) fun w => (dat0 (U5 m) c).arrAt w cfg0.N
theorem B6_arr (c : Dev nD) (w : Fin cfg0.W) :
    B6 m c (Proc.devRef .tc (Pipeline.arrRef spec0 w)) = (dat0 (U5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
theorem B6_of (c : Dev nD) (r : Ref sig .tc) (h : ∀ w : Fin cfg0.W, Pipeline.arrRef spec0 w = r → (cfg0.win w).isOut = false) :
    B6 m c (Proc.devRef .tc r) = B5 m c (Proc.devRef .tc r) := by
  by_cases hw : ∃ w : Fin cfg0.W, Pipeline.arrRef spec0 w = r
  · obtain ⟨w, rfl⟩ := hw
    exact (B6_arr m c w).trans (((dat0 (U5 m) c).arrAt_in w (h w rfl) _).trans (A_eq0 (U5 m) c w))
  · exact B6_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem B6_args (c : Dev nD) : ∀ a ∈ argRefs, B6 m c (Proc.devRef .tc a) = m ((c : Thread nD τ).loc a) :=
  fun a ha => (B6_of m c a (argsIn0 a ha)).trans (B5_args m c a ha)
abbrev U6 : (c : Dev nD) → (b : Ref sig .tc) → Buf (Elt Ideal) ((c : Thread nD τ).loc b) := fun c b => B6 m c b
theorem hF0 (c : Dev nD) (w : Fin cfg0.W) : (dat0 (U5 m) c).arrAt w cfg0.N = U6 m c (Pipeline.arrRef spec0 w) :=
  (B6_arr m c w).symm
theorem hrest0 (c : Dev nD) : ∀ b, b ∉ Finset.univ.image (Pipeline.arrRef spec0) → U6 m c b = U5 m c b :=
  fun b hb => B6_of_ne m c b fun w e => hb (Finset.mem_image.mpr ⟨w, Finset.mem_univ _, e⟩)

/-- After `hostOps1`. -/
abbrev B7 : Dev nD → Valuation τ sig (Elt Ideal) := fun c => StableHlo.after hostOps1 (B6 m c)
theorem B7_of (c : Dev nD) (r : Ref sig .tc) (h : r ∉ hostOps1_W) : B7 m c (Proc.devRef .tc r) = B6 m c (Proc.devRef .tc r) :=
  StableHlo.after_of_writes_sub hostOps1 _ hostOps1_writes h
theorem B7_args (c : Dev nD) : ∀ a ∈ argRefs, B7 m c (Proc.devRef .tc a) = m ((c : Thread nD τ).loc a) :=
  fun a ha => (B7_of m c a (hostOps1_args a ha)).trans (B6_args m c a ha)
abbrev U7 : (c : Dev nD) → (b : Ref sig .tc) → Buf (Elt Ideal) ((c : Thread nD τ).loc b) := fun c b => B7 m c b

/-- After call 1: its arrays at what the write-backs leave, every other buffer as entered. -/
def B8 (c : Dev nD) : Valuation τ sig (Elt Ideal) :=
  Pipeline.withArrays spec1 c (B7 m c) fun w => (dat1 (U7 m) c).arrAt w cfg1.N
theorem B8_arr (c : Dev nD) (w : Fin cfg1.W) :
    B8 m c (Proc.devRef .tc (Pipeline.arrRef spec1 w)) = (dat1 (U7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
theorem B8_of (c : Dev nD) (r : Ref sig .tc) (h : ∀ w : Fin cfg1.W, Pipeline.arrRef spec1 w = r → (cfg1.win w).isOut = false) :
    B8 m c (Proc.devRef .tc r) = B7 m c (Proc.devRef .tc r) := by
  by_cases hw : ∃ w : Fin cfg1.W, Pipeline.arrRef spec1 w = r
  · obtain ⟨w, rfl⟩ := hw
    exact (B8_arr m c w).trans (((dat1 (U7 m) c).arrAt_in w (h w rfl) _).trans (A_eq1 (U7 m) c w))
  · exact B8_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem B8_args (c : Dev nD) : ∀ a ∈ argRefs, B8 m c (Proc.devRef .tc a) = m ((c : Thread nD τ).loc a) :=
  fun a ha => (B8_of m c a (argsIn1 a ha)).trans (B7_args m c a ha)
abbrev U8 : (c : Dev nD) → (b : Ref sig .tc) → Buf (Elt Ideal) ((c : Thread nD τ).loc b) := fun c b => B8 m c b
theorem hF1 (c : Dev nD) (w : Fin cfg1.W) : (dat1 (U7 m) c).arrAt w cfg1.N = U8 m c (Pipeline.arrRef spec1 w) :=
  (B8_arr m c w).symm
theorem hrest1 (c : Dev nD) : ∀ b, b ∉ Finset.univ.image (Pipeline.arrRef spec1) → U8 m c b = U7 m c b :=
  fun b hb => B8_of_ne m c b fun w e => hb (Finset.mem_image.mpr ⟨w, Finset.mem_univ _, e⟩)

/-- After `hostOps2`. -/
abbrev B9 : Dev nD → Valuation τ sig (Elt Ideal) := fun c => StableHlo.after hostOps2 (B8 m c)
theorem B9_of (c : Dev nD) (r : Ref sig .tc) (h : r ∉ hostOps2_W) : B9 m c (Proc.devRef .tc r) = B8 m c (Proc.devRef .tc r) :=
  StableHlo.after_of_writes_sub hostOps2 _ hostOps2_writes h
theorem B9_args (c : Dev nD) : ∀ a ∈ argRefs, B9 m c (Proc.devRef .tc a) = m ((c : Thread nD τ).loc a) :=
  fun a ha => (B9_of m c a (hostOps2_args a ha)).trans (B8_args m c a ha)
abbrev U9 : (c : Dev nD) → (b : Ref sig .tc) → Buf (Elt Ideal) ((c : Thread nD τ).loc b) := fun c b => B9 m c b

/-- After call 2: its arrays at what the write-backs leave, every other buffer as entered. -/
def B10 (c : Dev nD) : Valuation τ sig (Elt Ideal) :=
  Pipeline.withArrays spec2 c (B9 m c) fun w => (dat2 (U9 m) c).arrAt w cfg2.N
theorem B10_arr (c : Dev nD) (w : Fin cfg2.W) :
    B10 m c (Proc.devRef .tc (Pipeline.arrRef spec2 w)) = (dat2 (U9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
theorem B10_of (c : Dev nD) (r : Ref sig .tc) (h : ∀ w : Fin cfg2.W, Pipeline.arrRef spec2 w = r → (cfg2.win w).isOut = false) :
    B10 m c (Proc.devRef .tc r) = B9 m c (Proc.devRef .tc r) := by
  by_cases hw : ∃ w : Fin cfg2.W, Pipeline.arrRef spec2 w = r
  · obtain ⟨w, rfl⟩ := hw
    exact (B10_arr m c w).trans (((dat2 (U9 m) c).arrAt_in w (h w rfl) _).trans (A_eq2 (U9 m) c w))
  · exact B10_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem B10_args (c : Dev nD) : ∀ a ∈ argRefs, B10 m c (Proc.devRef .tc a) = m ((c : Thread nD τ).loc a) :=
  fun a ha => (B10_of m c a (argsIn2 a ha)).trans (B9_args m c a ha)
abbrev U10 : (c : Dev nD) → (b : Ref sig .tc) → Buf (Elt Ideal) ((c : Thread nD τ).loc b) := fun c b => B10 m c b
theorem hF2 (c : Dev nD) (w : Fin cfg2.W) : (dat2 (U9 m) c).arrAt w cfg2.N = U10 m c (Pipeline.arrRef spec2 w) :=
  (B10_arr m c w).symm
theorem hrest2 (c : Dev nD) : ∀ b, b ∉ Finset.univ.image (Pipeline.arrRef spec2) → U10 m c b = U9 m c b :=
  fun b hb => B10_of_ne m c b fun w e => hb (Finset.mem_image.mpr ⟨w, Finset.mem_univ _, e⟩)

/-- After `hostOps3`. -/
abbrev B11 : Dev nD → Valuation τ sig (Elt Ideal) := fun c => StableHlo.after hostOps3 (B10 m c)
theorem B11_of (c : Dev nD) (r : Ref sig .tc) (h : r ∉ hostOps3_W) : B11 m c (Proc.devRef .tc r) = B10 m c (Proc.devRef .tc r) :=
  StableHlo.after_of_writes_sub hostOps3 _ hostOps3_writes h
theorem B11_args (c : Dev nD) : ∀ a ∈ argRefs, B11 m c (Proc.devRef .tc a) = m ((c : Thread nD τ).loc a) :=
  fun a ha => (B11_of m c a (hostOps3_args a ha)).trans (B10_args m c a ha)
abbrev U11 : (c : Dev nD) → (b : Ref sig .tc) → Buf (Elt Ideal) ((c : Thread nD τ).loc b) := fun c b => B11 m c b

/-! ## The proof data family and the thread state -/

/-- Every call's proof data, each at its entry contents. -/
def pdats : (p : Fin 3) → (c : Dev nD) → Dat τ (Elt Ideal) Unit ℕ (UR sig nD τ) ℕ (Pipeline.pin (pcfgs (F := Ideal)) adm p) c
  | ⟨0, _⟩ => fun c => dat0 (U5 m) c
  | ⟨1, _⟩ => fun c => dat1 (U7 m) c
  | ⟨2, _⟩ => fun c => dat2 (U9 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (B11 m c) ∗ ∃ r, prngReg c r)

/-! ## The calls as segments -/

theorem scratch_split (c : Dev nD) : (Pipeline.scopedRest spec0 c : sProp 𝕄)
    = iprop((∃ f : Buf (Elt Ideal) ((c.tc : Thread nD τ).loc cc0_scratch0), ((c.tc : Thread nD τ).loc cc0_scratch0) ↦{fullShare} f)
        ∗ Pipeline.scopedRestBut spec0 c [cc0_scratch0]) := by
  rw [Pipeline.scopedRest_split_of_list spec0 c [cc0_scratch0] (by decide) (by decide)]; rfl
/-- The scratch, taken out of the scoped buffers no window stages: it holds anything, and no slab is filled yet. -/
theorem scratch_in (c : Dev nD) (R : Vec Ideal S8x512x512 .f32 → Prop) (hR : ∀ X, R X) :
    (Pipeline.scopedRest spec0 c : sProp 𝕄)
      ⊢ iprop(Pipeline.scopedRestBut spec0 c [cc0_scratch0] ∗ slabAt c (Memref.whole cc0_scratch0) R) := by
  rw [scratch_split]
  iintro ⟨⟨%f, H⟩, Hr⟩
  isplitl [Hr]; · iexact Hr
  iexists f
  isplitl [H]
  · rw [show (Memref.whole cc0_scratch0).view.set = Finset.univ from View.set_whole _]
    iexact H
  ipureintro; exact hR _
/-- And given back. -/
theorem scratch_out (c : Dev nD) (R : Vec Ideal S8x512x512 .f32 → Prop) :
    iprop(Pipeline.scopedRestBut spec0 c [cc0_scratch0] ∗ slabAt c (Memref.whole cc0_scratch0) R)
      ⊢ (Pipeline.scopedRest spec0 c : sProp 𝕄) := by
  rw [scratch_split]
  iintro ⟨Hr, %f, H, -⟩
  isplitl [H]
  · iexists f
    rw [show (Memref.whole cc0_scratch0).view.set = Finset.univ from View.set_whole _]
    iexact H
  iexact Hr

set_option backward.isDefEq.respectTransparency.types false in
/-- Call 0 over the thread state: entered at `B5`, left at `B6`. -/
def reg0 (hgood : ∀ c b g, Good (rowScores (U5 m) c b g)) : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U5 m) c (hgood c)).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (U5 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (U5 m c) (A_eq0 (U5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U5 m) c).Φ 0 from rfl]
    dsimp only [dat0]
    iintro ⟨Hp, -, Hr⟩
    ihave H := (scratch_in c (Filled (rowScores (U5 m) c ((0 : Fin (cfg0.N + 1)).val / 8)) ((0 : Fin (cfg0.N + 1)).val % 8)) (fun X g h => absurd h (Nat.not_lt_zero _))) $$ Hr
    icases H with ⟨Hr, Hs⟩
    isplitl [Hr]; · iexact Hr
    isplitl [Hp]; · iexact Hp
    iexact Hs
  hout c := by
    rw [Pipeline.ownSems0_none, show (pdats m 0 c).Φ (Fin.last _) = (dat0 (U5 m) c).Φ (Fin.last _) from rfl]
    dsimp only [dat0]
    iintro ⟨Hr, Hp, Hs⟩
    isplitl [Hp]; · iexact Hp
    isplitr; · iempintro
    iapply (scratch_out c _)
    isplitl [Hr]; · iexact Hr
    iexact Hs
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (U5 m c) (U6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered at `B7`, left at `B8`. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (U7 m c) (A_eq1 (U7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered at `B9`, left at `B10`. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec2 c (U9 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (U9 m c) (A_eq2 (U9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (U9 m c) (U10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

variable (hgood : ∀ c b g, Good (rowScores (U5 m) c b g))

/-- @main's eleven segments in order. -/
abbrev segs : List (Pipeline.Seg (pcfgs (F := Ideal)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m hgood),
    .host (hseg hostOps1 hostOps1_sub hostOps1_fresh (B6 m)),
    .region (reg1 m),
    .host (hseg hostOps2 hostOps2_sub hostOps2_fresh (B8 m)),
    .region (reg2 m),
    .host (hseg hostOps3 hostOps3_sub hostOps3_fresh (B10 m)) ]
theorem main_run (c : Dev nD) : main (F := Ideal) c = Pipeline.Seg.run (segs m hgood) := (main_chain c).trans (by chain_rfl)

/-- The TensorCore has no unscoped semaphore. -/
theorem no_unscoped : ∀ sm : SemLoc sig, sm.isScoped .tc = true := by decide

set_option backward.isDefEq.respectTransparency.types false in
include hgood in
/-- The run: the result at the last boundary's contents, the arguments as launched, every counter zero. -/
theorem run : θ_run defs (onTc (τ := τ) (main (F := Ideal))) ⟨m, fun _ => 0, ρ⟩ (fun r => (∀ c : Dev nD,
      r.2.mem ((c.tc : Thread nD τ).loc main_v54) = B11 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := Ideal)) adm (pdats m) () cellOf_inj emb₁ defs₀ 𝒱₀ L lv m ρ main (segs m hgood)
    (fun c Q => by rw [main_run m hgood c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h hz => ⟨(fun c =>
      ⟨h c _ (mem_uc main_v54 (by decide)),
       (h c _ (mem_uc main_arg0 (by decide))).trans (B11_args m c main_arg0 (by decide)),
       (h c _ (mem_uc main_arg1 (by decide))).trans (B11_args m c main_arg1 (by decide)),
       (h c _ (mem_uc main_arg2 (by decide))).trans (B11_args m c main_arg2 (by decide)),
       (h c _ (mem_uc main_arg3 (by decide))).trans (B11_args m c main_arg3 (by decide)),
       (h c _ (mem_uc main_arg4 (by decide))).trans (B11_args m c main_arg4 (by decide)),
       (h c _ (mem_uc main_arg5 (by decide))).trans (B11_args m c main_arg5 (by decide)),
       (h c _ (mem_uc main_arg6 (by decide))).trans (B11_args m c main_arg6 (by decide)),
       (h c _ (mem_uc main_arg7 (by decide))).trans (B11_args m c main_arg7 (by decide)),
       (h c _ (mem_uc main_arg8 (by decide))).trans (B11_args m c main_arg8 (by decide))⟩), funext fun g => hz g (.inr (no_unscoped g.2))⟩)

end Cert.KernelIdeal.Call

end
-- ==== Proof.Score.lean ====
/- The pairing score as mathematics: rows scaled to length at most one, their products divided by two weights, −1 on the diagonal;
   and that it is symmetric and of moderate size whatever the input holds, infinities included. -/
module

public import proofs.«01_k».proof.Proof.Greedy
public import Mathlib.Analysis.SpecialFunctions.Pow.NNReal
public import Mathlib.Algebra.Order.BigOperators.Ring.Finset

@[expose] public section

noncomputable section

namespace Cert.Greedy

open Idealize.ShloMosaic

/-- A row's length, at least 1e-12. -/
def rowNorm (x : Fin 2048 → EReal) : EReal := max (Ideal.sqrt (∑ d, x d * x d)) (Ideal.ofBits .f32 0x2B8CBCCC#32)
/-- A row over its length. -/
def unitRow (x : Fin 2048 → EReal) (d : Fin 2048) : EReal := Ideal.div (x d) (rowNorm x)
/-- The score of two rows under their weights. -/
def score (x : Fin 512 → Fin 2048 → EReal) (w : Fin 512 → EReal) (r q : Fin 512) : EReal :=
  if r = q then Ideal.ofBits .f32 0xBF800000#32 else Ideal.div (∑ d, unitRow (x r) d * unitRow (x q) d) (w r * w q)

theorem ofBits_tiny : ∃ t : ℝ, 0 < t ∧ Ideal.ofBits .f32 0x2B8CBCCC#32 = (t : EReal) := by
  refine ⟨9223372 * (2 ^ 63)⁻¹, by norm_num, ?_⟩
  simp [Ideal.ofBits, Ideal.ieee]
theorem ofBits_tenth : ((0.05 : ℝ) : EReal) ≤ Ideal.ofBits .f32 0x3DCCCCCD#32 := by
  simp [Ideal.ofBits, Ideal.ieee]
  rw [← EReal.coe_mul, EReal.coe_le_coe_iff]; norm_num
theorem ofBits_neg_one : Ideal.ofBits .f32 0xBF800000#32 = ((-1 : ℝ) : EReal) := by
  simp [Ideal.ofBits, Ideal.ieee]
  rw [← EReal.coe_mul, ← EReal.coe_one, EReal.coe_eq_coe_iff]; norm_num

theorem coe_sum {n : ℕ} (f : Fin n → ℝ) : ∑ d, ((f d : ℝ) : EReal) = ((∑ d, f d : ℝ) : EReal) := by
  induction n with
  | zero => simp
  | succ n ih => rw [Fin.sum_univ_succ, Fin.sum_univ_succ, ih, EReal.coe_add]

theorem sq_nonneg' (x : EReal) : 0 ≤ x * x := by
  induction x with
  | bot => simp
  | top => simp
  | coe r => rw [← EReal.coe_mul, ← EReal.coe_zero, EReal.coe_le_coe_iff]; exact mul_self_nonneg r

/-- A row over its length is real, and of length at most one. -/
theorem unitRow_real (x : Fin 2048 → EReal) : ∃ a : Fin 2048 → ℝ, (∀ d, unitRow x d = (a d : EReal)) ∧ ∑ d, a d ^ 2 ≤ 1 := by
  obtain ⟨t, ht, et⟩ := ofBits_tiny
  by_cases h : ∀ d, ∃ y : ℝ, x d = (y : EReal)
  · choose y hy using h
    have hs : ∑ d, x d * x d = ((∑ d, y d ^ 2 : ℝ) : EReal) := by
      rw [← coe_sum]; exact Finset.sum_congr rfl fun d _ => by rw [hy, ← EReal.coe_mul, pow_two]
    have h0 : (0 : ℝ) ≤ ∑ d, y d ^ 2 := Finset.sum_nonneg fun d _ => sq_nonneg _
    have hn : rowNorm x = ((max (Real.sqrt (∑ d, y d ^ 2)) t : ℝ) : EReal) := by
      unfold rowNorm
      rw [hs, et, show Ideal.sqrt ((∑ d, y d ^ 2 : ℝ) : EReal) = ((Real.sqrt (∑ d, y d ^ 2) : ℝ) : EReal) from if_neg (not_lt.mpr h0)]
      exact (EReal.coe_strictMono.monotone.map_max).symm
    set N : ℝ := max (Real.sqrt (∑ d, y d ^ 2)) t with hN
    have hNpos : 0 < N := lt_of_lt_of_le ht (le_max_right _ _)
    refine ⟨fun d => y d * N⁻¹, fun d => ?_, ?_⟩
    · unfold unitRow
      rw [hn, hy, Ideal.div, if_neg (by rw [← EReal.coe_zero, EReal.coe_eq_coe_iff]; exact hNpos.ne'), ← EReal.coe_inv, ← EReal.coe_mul]
    · simp only [mul_pow]
      rw [← Finset.sum_mul, inv_pow, ← div_eq_mul_inv, div_le_one (by positivity)]
      calc ∑ d, y d ^ 2 = Real.sqrt (∑ d, y d ^ 2) ^ 2 := (Real.sq_sqrt h0).symm
        _ ≤ N ^ 2 := pow_le_pow_left₀ (Real.sqrt_nonneg _) (le_max_left _ _) 2
  · obtain ⟨d0, hd0⟩ := not_forall.mp h
    have hinf : x d0 * x d0 = ⊤ := by
      induction hx : x d0 with
      | bot => simp
      | top => simp
      | coe r => exact absurd ⟨r, hx⟩ hd0
    have hs : ∑ d, x d * x d = ⊤ := by
      refine top_unique ?_
      rw [← hinf]
      exact Finset.single_le_sum (f := fun d => x d * x d) (fun d _ => sq_nonneg' (x d)) (Finset.mem_univ d0)
    have hn : rowNorm x = ⊤ := by
      unfold rowNorm
      rw [hs]; exact max_eq_left le_top
    refine ⟨fun _ => 0, fun d => ?_, by simp⟩
    unfold unitRow
    rw [hn, Ideal.div, if_neg (by simp), EReal.inv_top, mul_zero, EReal.coe_zero]

/-- The product of two such rows is at most one. -/
theorem unitRow_dot (x y : Fin 2048 → EReal) : ∃ s : ℝ, ∑ d, unitRow x d * unitRow y d = (s : EReal) ∧ |s| ≤ 1 := by
  obtain ⟨a, ha, hA⟩ := unitRow_real x
  obtain ⟨b, hb, hB⟩ := unitRow_real y
  refine ⟨∑ d, a d * b d, ?_, ?_⟩
  · rw [← coe_sum]; exact Finset.sum_congr rfl fun d _ => by rw [ha, hb, EReal.coe_mul]
  · rw [abs_le_one_iff_mul_self_le_one, ← pow_two]
    refine (Finset.sum_mul_sq_le_sq_mul_sq _ _ _).trans ?_
    exact mul_le_one₀ hA (Finset.sum_nonneg fun d _ => sq_nonneg _) hB

theorem div_moderate {s : ℝ} (hs : |s| ≤ 1) {u v : EReal} (hu : ((0.05 : ℝ) : EReal) ≤ u) (hv : ((0.05 : ℝ) : EReal) ≤ v) :
    ((-1000 : ℝ) : EReal) ≤ Ideal.div (s : EReal) (u * v) ∧ Ideal.div (s : EReal) (u * v) ≤ ((1000 : ℝ) : EReal) := by
  have hpos : (0 : EReal) < ((0.05 : ℝ) : EReal) := by rw [← EReal.coe_zero, EReal.coe_lt_coe_iff]; norm_num
  have top : ((-1000 : ℝ) : EReal) ≤ Ideal.div (s : EReal) ⊤ ∧ Ideal.div (s : EReal) ⊤ ≤ ((1000 : ℝ) : EReal) := by
    rw [Ideal.div, if_neg (by simp), EReal.inv_top, mul_zero, ← EReal.coe_zero, EReal.coe_le_coe_iff, EReal.coe_le_coe_iff]
    norm_num
  induction u with
  | bot => exact absurd hu (not_le.mpr (EReal.bot_lt_coe _))
  | top => rw [EReal.top_mul_of_pos (hpos.trans_le hv)]; exact top
  | coe u =>
    induction v with
    | bot => exact absurd hv (not_le.mpr (EReal.bot_lt_coe _))
    | top => rw [EReal.mul_top_of_pos (hpos.trans_le hu)]; exact top
    | coe v =>
      rw [EReal.coe_le_coe_iff] at hu hv
      have hp : (0.0025 : ℝ) ≤ u * v := by nlinarith
      rw [← EReal.coe_mul, Ideal.div, if_neg (by rw [← EReal.coe_zero, EReal.coe_eq_coe_iff]; exact (lt_of_lt_of_le (by norm_num) hp).ne'),
        ← EReal.coe_inv, ← EReal.coe_mul, EReal.coe_le_coe_iff, EReal.coe_le_coe_iff]
      have h0 : 0 < u * v := lt_of_lt_of_le (by norm_num) hp
      obtain ⟨h1, h2⟩ := abs_le.mp hs
      rw [← div_eq_mul_inv]
      constructor
      · rw [le_div_iff₀ h0]; nlinarith
      · rw [div_le_iff₀ h0]; nlinarith

theorem good_score (x : Fin 512 → Fin 2048 → EReal) {w : Fin 512 → EReal} (hw : ∀ r, Ideal.ofBits .f32 0x3DCCCCCD#32 ≤ w r) :
    Good (score x w) := by
  have hw' : ∀ r, ((0.05 : ℝ) : EReal) ≤ w r := fun r => ofBits_tenth.trans (hw r)
  have bounds : ∀ r q, ((-1000 : ℝ) : EReal) ≤ score x w r q ∧ score x w r q ≤ ((1000 : ℝ) : EReal) := fun r q => by
    unfold score
    split
    · rw [ofBits_neg_one, EReal.coe_le_coe_iff, EReal.coe_le_coe_iff]; norm_num
    · obtain ⟨s, e, hs⟩ := unitRow_dot (x r) (x q)
      rw [e]; exact div_moderate hs (hw' r) (hw' q)
  refine ⟨fun r q => ?_, fun r q => (bounds r q).1, fun r q => (bounds r q).2⟩
  unfold score
  by_cases h : r = q
  · rw [if_pos h, if_pos h.symm]
  · rw [if_neg h, if_neg (Ne.symm h), mul_comm (w q)]
    simp only [mul_comm (unitRow (x q) _)]

end Cert.Greedy

end
-- ==== Proof.KScore.lean ====
module

public import proofs.«01_k».proof.Proof.Run
public import proofs.«01_k».proof.Proof.Score
public import Idealize.ShloMosaic.Lib.Pointwise
public import Idealize.ShloMosaic.Lib.StableHlo.ReadAt
public import Idealize.ShloMosaic.Lib.Pipeline.ValueKit

/-! # The scores that the first call computes

The host prologue's buffers read at an index, the blocks of the first call's two inputs, and from both: what the call's
body computes at a grid point is the score of `Score` at the batch of that number. -/

@[expose] public section

set_option maxRecDepth 16384

noncomputable section

namespace Cert.KernelIdeal.Call

open Cert.KernelIdeal.Gen
open Idealize.ShloMosaic Idealize.ShloMosaic.TcCoe Idealize.ShloMosaic.Tactic Idealize.ShloMosaic.StableHlo
open Cert.Greedy

/-! ## The host prologue at an index -/

section Host
variable (V : Valuation τ sig (Elt Ideal))

theorem weight_read (b : Fin 16) (r : Fin 512) :
    (after hostOps0_2 V (Proc.devRef .tc main_v34) : Vec Ideal S16x512 .f32) (ix2 b r)
      = (max ((V (Proc.devRef .tc main_v31) : Vec Ideal S16x512x1 .f32) (ix3 b r 0)) (Ideal.ofBits .f32 0x3DCCCCCD#32) : EReal) := by
  after_reads_at
  try rfl

theorem norm_read (b : Fin 16) (r : Fin 512) {x : Fin 2048 → EReal}
    (hx : ∀ d, (V (Proc.devRef .tc main_arg0) : Vec Ideal S16x512x2048 .f32) (ix3 b r d) = x d) :
    (after hostOps0_3 V (Proc.devRef .tc main_v35) : Vec Ideal S16x512x1 .f32) (ix3 b r 0) = Ideal.sqrt (∑ d, x d * x d) := by
  after_reads_at
  exact congrArg Ideal.sqrt (Finset.sum_congr rfl fun d _ => congrArg₂ (fun a b : EReal => a * b) (hx d) (hx d))

theorem unit_read (b : Fin 16) (r : Fin 512) (d : Fin 2048) :
    (after hostOps0_4 V (Proc.devRef .tc main_v39) : Vec Ideal S16x512x2048 .f32) (ix3 b r d)
      = Ideal.div ((V (Proc.devRef .tc main_arg0) : Vec Ideal S16x512x2048 .f32) (ix3 b r d))
          (max ((V (Proc.devRef .tc main_v35) : Vec Ideal S16x512x1 .f32) (ix3 b r 0)) (Ideal.ofBits .f32 0x2B8CBCCC#32)) := by
  after_reads_at
  try rfl

theorem row_read (b : Fin 16) (r : Fin 512) :
    (after hostOps0_4 V (Proc.devRef .tc main_v40) : Vec Ideal S16x1x512 .f32) (ix3 b 0 r)
      = (V (Proc.devRef .tc main_v34) : Vec Ideal S16x512 .f32) (ix2 b r) := by
  after_reads_at
  try rfl

end Host

/-- The score a body computes, from its two blocks. -/
theorem scoreOf_read (x0 : Vec Ideal S1x512x2048 .f32) (x1 : Vec Ideal S1x1x512 .f32) (r q : Fin 512) :
    scoreOf x0 x1 r q = if r = q then (Ideal.ofBits .f32 0xBF800000#32 : EReal)
      else Ideal.div (∑ d : Fin 2048, (x0 (ix3 0 r d) : EReal) * x0 (ix3 0 q d)) ((x1 (ix3 0 0 r) : EReal) * x1 (ix3 0 0 q)) := by
  unfold scoreOf
  pointwise [k0_pay2]
  have hr := r.isLt
  have hq := q.isLt
  by_cases h : r = q
  · rw [if_pos h, h]
    simp [Scalar.select, IntOp.cmpi]
  · have hne : BitVec.ofNat 32 r.val ≠ BitVec.ofNat 32 q.val := by
      intro e
      have := congrArg BitVec.toNat e
      simp only [BitVec.toNat_ofNat] at this
      omega
    rw [if_neg h]
    simp [Scalar.select, IntOp.cmpi, beq_eq_false_iff_ne.mpr hne]

variable (m : (ℓ : Loc nD τ sig) → Buf (Elt Ideal) ℓ)

/-- The rows of batch `b`, as launched. -/
def rows (c : Dev nD) (b : Fin 16) (r : Fin 512) (d : Fin 2048) : EReal :=
  (m ((c : Thread nD τ).loc main_arg0) : Vec Ideal S16x512x2048 .f32) (ix3 b r d)

/-- The importance of row `r` of batch `b`, held from below at a tenth. -/
def weight (c : Dev nD) (b : Fin 16) (r : Fin 512) : EReal :=
  max ((Gen.V2 m c (Proc.devRef .tc main_v31) : Vec Ideal S16x512x1 .f32) (ix3 b r 0)) (Ideal.ofBits .f32 0x3DCCCCCD#32)

/-- The scores of batch `b`. -/
def scores (c : Dev nD) (b : Fin 16) : Fin 512 → Fin 512 → EReal := score (rows m c b) (weight m c b)

theorem good_scores (c : Dev nD) (b : Fin 16) : Good (scores m c b) := good_score _ fun _ => le_max_right _ _

theorem x_entry (c : Dev nD) (b : Fin 16) (r : Fin 512) (d : Fin 2048) :
    (B5 m c (Proc.devRef .tc main_v39) : Vec Ideal S16x512x2048 .f32) (ix3 b r d) = unitRow (rows m c b r) d := by
  have h0 : ∀ d, (Gen.V4 m c (Proc.devRef .tc main_arg0) : Vec Ideal S16x512x2048 .f32) (ix3 b r d) = rows m c b r d := fun d => by
    rw [Gen.V4_of m c main_arg0 (by decide), Gen.V3_of m c main_arg0 (by decide), Gen.V2_of m c main_arg0 (by decide), Gen.V1_of m c main_arg0 (by decide)]; rfl
  have h1 : ∀ d, (Gen.V3 m c (Proc.devRef .tc main_arg0) : Vec Ideal S16x512x2048 .f32) (ix3 b r d) = rows m c b r d := fun d => by
    rw [Gen.V3_of m c main_arg0 (by decide), Gen.V2_of m c main_arg0 (by decide), Gen.V1_of m c main_arg0 (by decide)]; rfl
  refine (unit_read (Gen.V4 m c) b r d).trans ?_
  have h2 := norm_read (Gen.V3 m c) b r h1
  rw [h0]
  exact congrArg (fun z => Ideal.div (rows m c b r d) (max z (Ideal.ofBits .f32 0x2B8CBCCC#32))) h2

theorem w_entry (c : Dev nD) (b : Fin 16) (r : Fin 512) :
    (B5 m c (Proc.devRef .tc main_v40) : Vec Ideal S16x1x512 .f32) (ix3 b 0 r) = weight m c b r := by
  refine (row_read (Gen.V4 m c) b r).trans ?_
  rw [Gen.V4_of m c main_v34 (by decide)]
  exact weight_read (Gen.V2 m c) b r

theorem idx0_0 : ∀ t : Fin cfg0.N, win0_0.index t = ![t.val, 0, 0] :=
  (by decide +kernel : ∀ t : Fin grid0.N, win0_0.index t = ![t.val, 0, 0])
theorem idx0_1 : ∀ t : Fin cfg0.N, win0_1.index t = ![t.val, 0, 0] :=
  (by decide +kernel : ∀ t : Fin grid0.N, win0_1.index t = ![t.val, 0, 0])

/-- A point of the grid as a batch. -/
def batch0 (t : Fin cfg0.N) : Fin 16 := ⟨t.val, lt_of_lt_of_eq t.isLt N_0⟩

theorem x_block (V : (c : Dev nD) → (b : Ref sig .tc) → Buf (Elt Ideal) ((c : Thread nD τ).loc b)) (c : Dev nD) (t : Fin cfg0.N) (r : Fin 512) (d : Fin 2048) :
    (iblk0 V c 0 t : Vec Ideal S1x512x2048 .f32) (ix3 0 r d) = (V c main_v39 : Vec Ideal S16x512x2048 .f32) (ix3 (batch0 t) r d) := by
  blk_ext [iblk0, idx0_0 t, batch0]
theorem w_block (V : (c : Dev nD) → (b : Ref sig .tc) → Buf (Elt Ideal) ((c : Thread nD τ).loc b)) (c : Dev nD) (t : Fin cfg0.N) (r : Fin 512) :
    (iblk0 V c 1 t : Vec Ideal S1x1x512 .f32) (ix3 0 0 r) = (V c main_v40 : Vec Ideal S16x1x512 .f32) (ix3 (batch0 t) 0 r) := by
  blk_ext [iblk0, idx0_1 t, batch0]

/-- The score a body computes at a point is the score of that batch. -/
theorem scores_point (c : Dev nD) (t : Fin cfg0.N) :
    scoreOf (iblk0 (U5 m) c 0 t) (iblk0 (U5 m) c 1 t) = scores m c (batch0 t) := by
  funext r q
  rw [scoreOf_read]
  unfold scores score
  refine if_congr Iff.rfl rfl ?_
  refine congrArg₂ Ideal.div (Finset.sum_congr rfl fun d _ => ?_) ?_
  · exact congrArg₂ (fun a b : EReal => a * b) ((x_block (U5 m) c t r d).trans (x_entry m c _ r d)) ((x_block (U5 m) c t q d).trans (x_entry m c _ q d))
  · exact congrArg₂ (fun a b : EReal => a * b) ((w_block (U5 m) c t r).trans (w_entry m c _ r)) ((w_block (U5 m) c t q).trans (w_entry m c _ q))

theorem rowScores_eq (c : Dev nD) (b : ℕ) (g : Fin 8) : rowScores (U5 m) c b g = scores m c (batch0 (pt (8 * b + g.val))) :=
  scores_point m c _

theorem good_rowScores (c : Dev nD) (b : ℕ) (g : Fin 8) : Good (rowScores (U5 m) c b g) := by
  rw [rowScores_eq]; exact good_scores m c _

end Cert.KernelIdeal.Call
end
-- ==== Proof.KArrays.lean ====
/- The arrays that the first call leaves, read at an index: the rows of each pair, and which rows are left. -/
module

public import proofs.«01_k».proof.Proof.KScore

@[expose] public section

set_option maxRecDepth 16384

noncomputable section

namespace Cert.KernelIdeal.Call

open Cert.KernelIdeal.Gen
open Idealize.ShloMosaic Idealize.ShloMosaic.TcCoe Idealize.ShloMosaic.Tactic Idealize.ShloMosaic.StableHlo
open Cert.Greedy

variable (V : (c : Dev nD) → (b : Ref sig .tc) → Buf (Elt Ideal) ((c : Thread nD τ).loc b)) (c : Dev nD)

theorem idx0_2 : ∀ t : Fin cfg0.N, win0_2.index t = ![t.val / 8, 0, 0] :=
  (by decide +kernel : ∀ t : Fin grid0.N, win0_2.index t = ![t.val / 8, 0, 0])
theorem idx0_3 : ∀ t : Fin cfg0.N, win0_3.index t = ![t.val / 8, 0, 0] :=
  (by decide +kernel : ∀ t : Fin grid0.N, win0_3.index t = ![t.val / 8, 0, 0])
theorem idx0_4 : ∀ t : Fin cfg0.N, win0_4.index t = ![t.val / 8, 0, 0] :=
  (by decide +kernel : ∀ t : Fin grid0.N, win0_4.index t = ![t.val / 8, 0, 0])

/-- The first rows of the pairs, over the whole array. -/
def firstsAll : Vec Ideal S2x8x128 .i32 := fun y => firsts (rowScores V c (y 0).val) (ix3 0 (y 1) (y 2))
def secondsAll : Vec Ideal S2x8x128 .i32 := fun y => seconds (rowScores V c (y 0).val) (ix3 0 (y 1) (y 2))
def leftsAll : Vec Ideal S2x8x512 .f32 := fun y => lefts (rowScores V c (y 0).val) (ix3 0 (y 1) (y 2))

theorem firsts_congr {a b : ℕ} {y z : S1x8x128.Idx} (h0 : b = a) (h1 : (z 1).val = (y 1).val)
    (h2 : (z 2).val = (y 2).val) : firsts (rowScores V c a) y = firsts (rowScores V c b) z := by
  subst h0
  unfold firsts
  rw [show z 1 = y 1 from Fin.ext h1, show z 2 = y 2 from Fin.ext h2]
theorem seconds_congr {a b : ℕ} {y z : S1x8x128.Idx} (h0 : b = a) (h1 : (z 1).val = (y 1).val)
    (h2 : (z 2).val = (y 2).val) : seconds (rowScores V c a) y = seconds (rowScores V c b) z := by
  subst h0
  unfold seconds
  rw [show z 1 = y 1 from Fin.ext h1, show z 2 = y 2 from Fin.ext h2]
theorem lefts_congr {a b : ℕ} {y z : S1x8x512.Idx} (h0 : b = a) (h1 : (z 1).val = (y 1).val)
    (h2 : (z 2).val = (y 2).val) : lefts (rowScores V c a) y = lefts (rowScores V c b) z := by
  subst h0
  unfold lefts
  rw [show z 1 = y 1 from Fin.ext h1, show z 2 = y 2 from Fin.ext h2]

theorem arr_firsts : (dat0 V c).arrAt 2 cfg0.N = firstsAll V c := by
  refine (dat0 V c).arrAt_eq_of_covers 2 _ (by decide +kernel) fun t hf y => ?_
  blk_simp [idx0_2 t]
  rw [after0_2]
  unfold firstsAll
  refine firsts_congr V c ?_ ?_ ?_
  · blk_simp [idx0_2 t]
  · show ((win0_2.blk t).view.emb y 1).val = (y 1).val
    blk_simp [idx0_2 t]
  · show ((win0_2.blk t).view.emb y 2).val = (y 2).val
    blk_simp [idx0_2 t]

theorem arr_seconds : (dat0 V c).arrAt 3 cfg0.N = secondsAll V c := by
  refine (dat0 V c).arrAt_eq_of_covers 3 _ (by decide +kernel) fun t hf y => ?_
  blk_simp [idx0_3 t]
  rw [after0_3]
  unfold secondsAll
  refine seconds_congr V c ?_ ?_ ?_
  · blk_simp [idx0_3 t]
  · show ((win0_3.blk t).view.emb y 1).val = (y 1).val
    blk_simp [idx0_3 t]
  · show ((win0_3.blk t).view.emb y 2).val = (y 2).val
    blk_simp [idx0_3 t]

theorem arr_lefts : (dat0 V c).arrAt 4 cfg0.N = leftsAll V c := by
  refine (dat0 V c).arrAt_eq_of_covers 4 _ (by decide +kernel) fun t hf y => ?_
  blk_simp [idx0_4 t]
  rw [after0_4]
  unfold leftsAll
  refine lefts_congr V c ?_ ?_ ?_
  · blk_simp [idx0_4 t]
  · show ((win0_4.blk t).view.emb y 1).val = (y 1).val
    blk_simp [idx0_4 t]
  · show ((win0_4.blk t).view.emb y 2).val = (y 2).val
    blk_simp [idx0_4 t]

end Cert.KernelIdeal.Call
end
-- ==== Proof.KPairs.lean ====
/- What the second call is given, read at an index: each batch's pairs, and which of its rows are left. -/
module

public import proofs.«01_k».proof.Proof.KArrays

@[expose] public section

set_option maxRecDepth 16384

noncomputable section

namespace Cert.KernelIdeal.Call

open Cert.KernelIdeal.Gen
open Idealize.ShloMosaic Idealize.ShloMosaic.TcCoe Idealize.ShloMosaic.Tactic Idealize.ShloMosaic.StableHlo
open Cert.Greedy

/-- A batch as a row of the first call's grid, and its place in the row. -/
abbrev gridRow (b : Fin 16) : Fin 2 := ⟨b.val / 8, by omega⟩
abbrev gridCol (b : Fin 16) : Fin 8 := ⟨b.val % 8, by omega⟩

theorem v42_read (V : Valuation τ sig (Elt Ideal)) (b : Fin 16) (t : Fin 128) :
    (after hostOps1 V (Proc.devRef .tc main_v42) : Vec Ideal S16x1x128 .i32) (ix3 b 0 t) =
      (V (Proc.devRef .tc main_v41_0) : Vec Ideal S2x8x128 .i32) (ix3 (gridRow b) (gridCol b) t) := by
  after_reads_at
theorem v43_read (V : Valuation τ sig (Elt Ideal)) (b : Fin 16) (t : Fin 128) :
    (after hostOps1 V (Proc.devRef .tc main_v43) : Vec Ideal S16x1x128 .i32) (ix3 b 0 t) =
      (V (Proc.devRef .tc main_v41_1) : Vec Ideal S2x8x128 .i32) (ix3 (gridRow b) (gridCol b) t) := by
  after_reads_at
theorem v44_read (V : Valuation τ sig (Elt Ideal)) (b : Fin 16) (q : Fin 512) :
    (after hostOps1 V (Proc.devRef .tc main_v44) : Vec Ideal S16x1x512 .f32) (ix3 b 0 q) =
      (V (Proc.devRef .tc main_v41_2) : Vec Ideal S2x8x512 .f32) (ix3 (gridRow b) (gridCol b) q) := by
  after_reads_at

variable (m : (ℓ : Loc nD τ sig) → Buf (Elt Ideal) ℓ) (c : Dev nD)

theorem rowScores_batch (b : Fin 16) : rowScores (U5 m) c (gridRow b).val (gridCol b) = scores m c b := by
  rw [rowScores_eq]
  refine congrArg (scores m c) (Fin.ext ?_)
  show (8 * (b.val / 8) + b.val % 8) % 16 = b.val
  omega

theorem first_entry (b : Fin 16) (t : Fin 128) :
    (B7 m c (Proc.devRef .tc main_v42) : Vec Ideal S16x1x128 .i32) (ix3 b 0 t) = BitVec.ofNat 32 (pair (scores m c b) t.val).1.val := by
  refine (v42_read _ b t).trans ((congrFun ((B6_arr m c 2).trans (arr_firsts (U5 m) c)) _).trans ?_)
  show BitVec.ofNat 32 (pair (rowScores (U5 m) c (gridRow b).val (gridCol b)) t.val).1.val = _
  rw [rowScores_batch]

theorem second_entry (b : Fin 16) (t : Fin 128) :
    (B7 m c (Proc.devRef .tc main_v43) : Vec Ideal S16x1x128 .i32) (ix3 b 0 t) = BitVec.ofNat 32 (pair (scores m c b) t.val).2.val := by
  refine (v43_read _ b t).trans ((congrFun ((B6_arr m c 3).trans (arr_seconds (U5 m) c)) _).trans ?_)
  show BitVec.ofNat 32 (pair (rowScores (U5 m) c (gridRow b).val (gridCol b)) t.val).2.val = _
  rw [rowScores_batch]

theorem left_entry (b : Fin 16) (q : Fin 512) :
    (B7 m c (Proc.devRef .tc main_v44) : Vec Ideal S16x1x512 .f32) (ix3 b 0 q) = if q ∈ avail (scores m c b) 128 then (1 : EReal) else 0 := by
  refine (v44_read _ b q).trans ((congrFun ((B6_arr m c 4).trans (arr_lefts (U5 m) c)) _).trans ?_)
  show leftAt (rowScores (U5 m) c (gridRow b).val (gridCol b)) q = _
  rw [rowScores_batch]; rfl

end Cert.KernelIdeal.Call
end
-- ==== Proof.Ranks.lean ====
/- The rows that the greedy selection leaves, in order: the kernel finds the row of a given rank by counting, the reference
   by sorting. Both find `nth`. -/
module

public import proofs.«01_k».proof.Proof.Greedy
public import Mathlib.Data.Finset.Sort
public import Mathlib.Data.EReal.Operations

@[expose] public section

noncomputable section

namespace Cert.Greedy

variable (A : Finset (Fin 512)) (hA : 256 ≤ A.card)

/-- The rows of `A` in order. -/
def ordered : Fin A.card ↪o Fin 512 := A.orderEmbOfFin rfl

theorem exists_ordered {q : Fin 512} (hq : q ∈ A) : ∃ r, ordered A r = q := by
  have h : q ∈ Set.range (A.orderEmbOfFin rfl) := by rw [Finset.range_orderEmbOfFin]; exact hq
  exact h

/-- Up to the row of rank `r` there are `r + 1` rows. -/
theorem card_le_ordered (r : Fin A.card) : (A.filter fun q => q ≤ ordered A r).card = r.val + 1 := by
  have h : A.filter (fun q => q ≤ ordered A r) = (Finset.Iic r).map (ordered A).toEmbedding := by
    ext q
    simp only [Finset.mem_filter, Finset.mem_map, Finset.mem_Iic]
    constructor
    · rintro ⟨hq, hle⟩
      obtain ⟨s, rfl⟩ := exists_ordered A hq
      exact ⟨s, (ordered A).le_iff_le.mp hle, rfl⟩
    · rintro ⟨s, hs, rfl⟩
      exact ⟨A.orderEmbOfFin_mem rfl s, (ordered A).le_iff_le.mpr hs⟩
  rw [h, Finset.card_map, Fin.card_Iic]

/-- The row of `A` that has `r` rows of `A` below it. -/
def nth (r : Fin 256) : Fin 512 := ordered A (r.castLE hA)

theorem nth_mem (r : Fin 256) : nth A hA r ∈ A := A.orderEmbOfFin_mem rfl _

theorem card_le_nth (r : Fin 256) : (A.filter fun q => q ≤ nth A hA r).card = r.val + 1 := card_le_ordered A _

/-- Of the rows of `A`, the one up to which there are `r + 1` is the one of rank `r`. -/
theorem card_le_iff (r : Fin 256) {q : Fin 512} (hq : q ∈ A) : (A.filter fun p => p ≤ q).card = r.val + 1 ↔ q = nth A hA r := by
  constructor
  · intro h
    obtain ⟨s, rfl⟩ := exists_ordered A hq
    rw [card_le_ordered] at h
    exact congrArg _ (Fin.ext (by simpa using h))
  · rintro rfl
    exact card_le_nth A hA r

/-- The sum over the one row that counting finds. -/
theorem sum_nth (r : Fin 256) (f : Fin 512 → EReal) :
    (∑ q, if (A.filter fun p => p ≤ q).card = r.val + 1 ∧ q ∈ A then f q else 0) = f (nth A hA r) := by
  rw [Finset.sum_eq_single (nth A hA r)]
  · rw [if_pos ⟨card_le_nth A hA r, nth_mem A hA r⟩]
  · intro q _ hne
    rw [if_neg]
    rintro ⟨h, hq⟩
    exact hne ((card_le_iff A hA r hq).mp h)
  · intro h; exact absurd (Finset.mem_univ _) h

/-- What is sorted: a row's number where it is in `A`, and 512 elsewhere. -/
def key (q : Fin 512) : ℕ := if q ∈ A then q.val else 512

theorem card_key_le (c : ℕ) (hc : c < 512) :
    (Finset.univ.filter fun q => key A q ≤ c) = A.filter fun q => q.val ≤ c := by
  ext q
  simp only [Finset.mem_filter, Finset.mem_univ, true_and]
  unfold key
  by_cases hq : q ∈ A
  · simp only [hq, if_true, true_and]
  · simp only [hq, if_false, false_and, iff_false]; omega

/-- The keys put in order by a permutation: the first 256 are the rows of `A` in order. -/
theorem sorted_key (s : Fin 512 → Fin 512) (hs : Function.Bijective s) (hmono : ∀ i j, i < j → key A (s i) ≤ key A (s j)) (r : Fin 256) :
    key A (s (r.castLE (by norm_num))) = (nth A hA r).val := by
  have hcard : ∀ c, c < 512 → (Finset.univ.filter fun i => key A (s i) ≤ c).card = (A.filter fun q => q.val ≤ c).card := fun c hc => by
    rw [← card_key_le A c hc]
    refine Finset.card_bijective s hs fun i => ?_
    simp
  have hlt : (nth A hA r).val < 512 := (nth A hA r).isLt
  have hle : (A.filter fun q => q.val ≤ (nth A hA r).val).card = r.val + 1 := card_le_nth A hA r
  rcases Nat.lt_trichotomy (key A (s (r.castLE (by norm_num)))) (nth A hA r).val with h | h | h
  · exfalso
    have h1 := hcard _ (h.trans hlt)
    have h2 : (Finset.univ.filter fun i : Fin 512 => i ≤ r.castLE (by norm_num)).card
        ≤ (Finset.univ.filter fun i => key A (s i) ≤ key A (s (r.castLE (by norm_num)))).card := by
      refine Finset.card_le_card fun i hi => ?_
      simp only [Finset.mem_filter, Finset.mem_univ, true_and] at hi ⊢
      rcases hi.lt_or_eq with hi | rfl
      · exact hmono _ _ hi
      · exact le_rfl
    have h3 : (Finset.univ.filter fun i : Fin 512 => i ≤ r.castLE (by norm_num)).card = r.val + 1 := by
      rw [show (Finset.univ.filter fun i : Fin 512 => i ≤ r.castLE (by norm_num)) = Finset.Iic (r.castLE (by norm_num)) by ext i; simp, Fin.card_Iic]
      rfl
    have h4 : (A.filter fun q => q.val ≤ key A (s (r.castLE (by norm_num)))).card < (A.filter fun q => q.val ≤ (nth A hA r).val).card := by
      refine Finset.card_lt_card ⟨fun q hq => ?_, fun hsub => ?_⟩
      · simp only [Finset.mem_filter] at hq ⊢
        exact ⟨hq.1, hq.2.trans h.le⟩
      · have := hsub (Finset.mem_filter.mpr ⟨nth_mem A hA r, le_rfl⟩)
        have := (Finset.mem_filter.mp this).2
        omega
    omega
  · exact h
  · exfalso
    have h1 := hcard _ hlt
    have h2 : (Finset.univ.filter fun i => key A (s i) ≤ (nth A hA r).val).card
        ≤ (Finset.univ.filter fun i : Fin 512 => i < r.castLE (by norm_num)).card := by
      refine Finset.card_le_card fun i hi => ?_
      simp only [Finset.mem_filter, Finset.mem_univ, true_and] at hi ⊢
      by_contra hn
      rcases (not_lt.mp hn).lt_or_eq with hi' | hi'
      · have := hmono _ _ hi'; omega
      · rw [← hi'] at hi; omega
    have h3 : (Finset.univ.filter fun i : Fin 512 => i < r.castLE (by norm_num)).card = r.val := by
      rw [show (Finset.univ.filter fun i : Fin 512 => i < r.castLE (by norm_num)) = Finset.Iio (r.castLE (by norm_num)) by ext i; simp, Fin.card_Iio]
      rfl
    omega

/-- A sum of indicators over `EReal` counts. -/
theorem sum_indicator (P : Fin 512 → Prop) [DecidablePred P] :
    (∑ q, if P q then (1 : EReal) else 0) = ((Finset.univ.filter P).card : EReal) := Finset.sum_boole P Finset.univ

end Cert.Greedy
end
-- ==== Proof.KGather.lean ====
/- What the call `pair_gather` computes at a grid point, from its blocks: the two rows of each pair side by side, and the
   rows left by the selection in order. A product with a one-hot matrix takes a row: zero times any value of `EReal` is
   zero, so the other rows add nothing, finite or not. -/
module

public import proofs.«01_k».proof.Proof.KScore
public import proofs.«01_k».proof.Proof.Ranks

@[expose] public section

set_option maxRecDepth 16384

noncomputable section

namespace Cert.KernelIdeal.Call

open Cert.KernelIdeal.Gen
open Idealize.ShloMosaic Idealize.ShloMosaic.TcCoe Idealize.ShloMosaic.Tactic Idealize.ShloMosaic.StableHlo
open Cert.Greedy

theorem ofNat_inj {p q : Fin 512} (h : BitVec.ofNat 32 p.val = BitVec.ofNat 32 q.val) : p = q := by
  have := congrArg BitVec.toNat h
  simp only [BitVec.toNat_ofNat] at this
  have hp := p.isLt
  have hq := q.isLt
  apply Fin.ext; omega

/-- A one-hot sum takes the element under the one. -/
theorem sum_oneHot (p : Fin 512) (f : Fin 512 → EReal) :
    (∑ q : Fin 512, Scalar.select (IntOp.cmpi .eq (BitVec.ofNat 32 p.val) (BitVec.ofNat 32 q.val)) (f q) 0) = f p := by
  rw [Finset.sum_eq_single p]
  · simp [Scalar.select, IntOp.cmpi]
  · intro q _ hne
    have : BitVec.ofNat 32 p.val ≠ BitVec.ofNat 32 q.val := fun e => hne (ofNat_inj e).symm
    simp [Scalar.select, IntOp.cmpi, beq_eq_false_iff_ne.mpr this]
  · intro h; exact absurd (Finset.mem_univ _) h

theorem pay2_read (x0 : Vec Ideal S1x512x2048 .f32) (q : Fin 512) (d : Fin 2048) : k1_pay2 x0 (ix2 q d) = (x0 (ix3 0 q d) : EReal) := by
  pointwise [k1_pay2]

theorem pairs_read (x0 : Vec Ideal S1x512x2048 .f32) (x1 x2 : Vec Ideal S1x1x128 .i32) (t : Fin 128) (d : Fin 4096) (i j : Fin 512)
    (h1 : x1 (ix3 0 0 t) = BitVec.ofNat 32 i.val) (h2 : x2 (ix3 0 0 t) = BitVec.ofNat 32 j.val) :
    k1_pay3 x0 x1 x2 (ix3 0 t d) = if h : d.val < 2048 then (x0 (ix3 0 i ⟨d.val, h⟩) : EReal)
      else x0 (ix3 0 j ⟨d.val - 2048, by have := d.isLt; omega⟩) := by
  pointwise [k1_pay3]
  rw [h1, h2]
  by_cases h : d.val < 2048
  · rw [dif_pos h, dif_pos h]
    exact (sum_oneHot i fun q => k1_pay2 x0 (ix2 q ⟨d.val, h⟩)).trans (pay2_read x0 i _)
  · rw [dif_neg h, dif_neg h]
    exact (sum_oneHot j fun q => k1_pay2 x0 (ix2 q ⟨d.val - 2048, by have := d.isLt; omega⟩)).trans (pay2_read x0 j _)

theorem toInt_small {n : ℕ} (h : n < 512) : (BitVec.ofNat 32 n).toInt = n := by
  rw [BitVec.toInt_eq_toNat_of_lt (by rw [BitVec.toNat_ofNat]; omega), BitVec.toNat_ofNat]
  omega

theorem sle_iff (p q : Fin 512) : (BitVec.ofNat 32 p.val).sle (BitVec.ofNat 32 q.val) = decide (p ≤ q) := by
  have hp := p.isLt
  have hq := q.isLt
  rw [Bool.eq_iff_iff, BitVec.sle_iff_toInt_le, decide_eq_true_eq, Fin.le_def]
  rw [toInt_small hp, toInt_small hq]
  omega

/-- The rank of a row: how many rows of `A` there are up to it. -/
theorem rank_read (x3 : Vec Ideal S1x1x512 .f32) (A : Finset (Fin 512)) (h3 : ∀ q, x3 (ix3 0 0 q) = if q ∈ A then (1 : EReal) else 0) (q : Fin 512) :
    k1_pay5 x3 (ix2 0 q) = (((A.filter fun p => p ≤ q).card : ℕ) : EReal) := by
  pointwise [k1_pay5, k1_pay4]
  have e : ∀ p : Fin 512, Scalar.select (IntOp.cmpi .sle (BitVec.ofNat 32 p.val) (BitVec.ofNat 32 q.val)) (x3 (ix3 0 0 p)) 0
      = if p ∈ A ∧ p ≤ q then (1 : EReal) else 0 := fun p => by
    rw [h3]
    by_cases hq : p ≤ q <;> by_cases hA : p ∈ A <;> simp [Scalar.select, IntOp.cmpi, sle_iff, hq, hA]
  refine (Finset.sum_congr rfl fun p _ => e p).trans ?_
  rw [sum_indicator]
  congr 2
  ext p
  simp

theorem half_lt_one : (Ideal.ofBits .f32 0x3F000000#32 : EReal) < 1 := by
  simp [Ideal.ofBits, Ideal.ieee]
  rw [← EReal.coe_mul, ← EReal.coe_one, EReal.coe_lt_coe_iff]
  norm_num

theorem half_not_lt_zero : ¬ (Ideal.ofBits .f32 0x3F000000#32 : EReal) < 0 := by
  simp [Ideal.ofBits, Ideal.ieee]
  rw [← EReal.coe_mul, ← EReal.coe_zero, EReal.coe_le_coe_iff]
  norm_num

theorem rest_read (v1 : FVec Ideal S512x2048 .f32) (v26 v33 : FVec Ideal S1x512 .f32) (A : Finset (Fin 512)) (hA : 256 ≤ A.card)
    (h26 : ∀ q, v26 (ix2 0 q) = if q ∈ A then (1 : EReal) else 0) (h33 : ∀ q, v33 (ix2 0 q) = (((A.filter fun p => p ≤ q).card : ℕ) : EReal))
    (r : Fin 256) (d : Fin 2048) :
    k1_pay1 v1 v26 v33 (ix3 0 r d) = (v1 (ix2 (nth A hA r) d) : EReal) := by
  pointwise [k1_pay1]
  have hr := r.isLt
  have hs : FloatOps.sitofp (F := Ideal) .f32 (BitVec.ofNat 32 r.val) = ((r.val : ℕ) : EReal) := by
    show (((BitVec.ofNat 32 r.val).toInt : ℝ) : EReal) = _
    rw [toInt_small (by omega)]
    simp
  rw [hs]
  refine Eq.trans (Finset.sum_congr rfl fun q _ => ?_) (sum_nth A hA r fun q => v1 (ix2 q d))
  rw [h26, h33]
  have hc : (((A.filter fun p => p ≤ q).card : ℕ) : EReal) = ((r.val : ℕ) : EReal) + 1 ↔ (A.filter fun p => p ≤ q).card = r.val + 1 := by
    rw [show ((r.val : ℕ) : EReal) + 1 = ((r.val + 1 : ℕ) : EReal) by push_cast; rfl]
    exact EReal.natCast_eq_iff
  by_cases h : (A.filter fun p => p ≤ q).card = r.val + 1 <;> by_cases hq : q ∈ A <;>
    simp [Scalar.select, IntOp.andi, hc, h, hq, half_lt_one, half_not_lt_zero]

end Cert.KernelIdeal.Call
end
-- ==== Proof.Merge.lean ====
/- What is made of the pairs: two rows side by side and the perceptron of them, over the extended reals. -/
module

public import proofs.«01_k».proof.Proof.Greedy
public import Idealize.ShloMosaic.Lib.Pointwise
public import Idealize.ShloMosaic.PureOps.Ideal.Laws

@[expose] public section

noncomputable section

namespace Cert.Greedy

open Idealize.ShloMosaic

/-- At least half the rows are left after 128 picks. -/
theorem enough (sc : Fin 512 → Fin 512 → EReal) : 256 ≤ (avail sc 128).card := by
  have := card_avail sc 128
  omega

/-- The two rows of a pair, side by side. -/
def sideBySide (x : Fin 512 → Fin 2048 → EReal) (p : Fin 512 × Fin 512) (d : Fin 4096) : EReal :=
  if h : d.val < 2048 then x p.1 ⟨d.val, h⟩ else x p.2 ⟨d.val - 2048, by have := d.isLt; omega⟩

/-- A hidden unit before its activation. -/
def hidden (x : Fin 4096 → EReal) (w1 : Fin 4096 → Fin 2048 → EReal) (b1 : Fin 2048 → EReal) (e : Fin 2048) : EReal :=
  (∑ k, x k * w1 k e) + b1 e

/-- The activation, by the error function. -/
def act (v : EReal) : EReal :=
  Ideal.ofBits .f32 0x3F000000#32 * v * (1 + FloatOps.erf (F := Ideal) (φ := .f32) (v * (Ideal.ofBits .f32 0x3F3504F3#32 : EReal) : EReal))

/-- The activation, by the complement of the error function at the opposite argument. -/
theorem act_erfc (v : EReal) :
    (Ideal.ofBits .f32 0x3F000000#32 * v) * FloatOps.hostUnary (F := Ideal) (φ := .f32) .erfc (-v * (Ideal.ofBits .f32 0x3F3504F3#32 : EReal) : EReal)
      = act v := by
  unfold act
  simp only [Ideal.erf_def, Ideal.hostUnary_erfc_def, neg_mul, Ideal.erfc_neg]

/-- One output of the perceptron. -/
def mlp (x : Fin 4096 → EReal) (w1 : Fin 4096 → Fin 2048 → EReal) (b1 : Fin 2048 → EReal) (w2 : Fin 2048 → Fin 2048 → EReal) (b2 : Fin 2048 → EReal)
    (d : Fin 2048) : EReal := (∑ e, act (hidden x w1 b1 e) * w2 e d) + b2 d

end Cert.Greedy
end
-- ==== Proof.KCall1.lean ====
/- The second call's two arrays, read at an index: the picked rows of each pair side by side, and the rows left, in order. -/
module

public import proofs.«01_k».proof.Proof.KPairs
public import proofs.«01_k».proof.Proof.KGather
public import proofs.«01_k».proof.Proof.Merge

@[expose] public section

set_option maxRecDepth 16384

noncomputable section

namespace Cert.KernelIdeal.Call

open Cert.KernelIdeal.Gen
open Idealize.ShloMosaic Idealize.ShloMosaic.TcCoe Idealize.ShloMosaic.Tactic Idealize.ShloMosaic.StableHlo
open Cert.Greedy

/-! ## Where the blocks lie -/

theorem idx1_0 : ∀ t : Fin cfg1.N, win1_0.index t = ![t.val, 0, 0] := (by decide +kernel : ∀ t : Fin grid1.N, win1_0.index t = ![t.val, 0, 0])
theorem idx1_1 : ∀ t : Fin cfg1.N, win1_1.index t = ![t.val, 0, 0] := (by decide +kernel : ∀ t : Fin grid1.N, win1_1.index t = ![t.val, 0, 0])
theorem idx1_2 : ∀ t : Fin cfg1.N, win1_2.index t = ![t.val, 0, 0] := (by decide +kernel : ∀ t : Fin grid1.N, win1_2.index t = ![t.val, 0, 0])
theorem idx1_3 : ∀ t : Fin cfg1.N, win1_3.index t = ![t.val, 0, 0] := (by decide +kernel : ∀ t : Fin grid1.N, win1_3.index t = ![t.val, 0, 0])
theorem idx1_4 : ∀ t : Fin cfg1.N, win1_4.index t = ![t.val, 0, 0] := (by decide +kernel : ∀ t : Fin grid1.N, win1_4.index t = ![t.val, 0, 0])
theorem idx1_5 : ∀ t : Fin cfg1.N, win1_5.index t = ![t.val, 0, 0] := (by decide +kernel : ∀ t : Fin grid1.N, win1_5.index t = ![t.val, 0, 0])

/-- The batch of a grid point of the second call. -/
def batch1 (t : Fin cfg1.N) : Fin 16 := ⟨t.val, lt_of_lt_of_eq t.isLt N_1⟩

section Blocks
variable (V : (c : Dev nD) → (b : Ref sig .tc) → Buf (Elt Ideal) ((c : Thread nD τ).loc b)) (c : Dev nD) (t : Fin cfg1.N)

theorem rows_block (r : Fin 512) (d : Fin 2048) :
    (iblk1 V c 0 t : Vec Ideal S1x512x2048 .f32) (ix3 0 r d) = (V c main_arg0 : Vec Ideal S16x512x2048 .f32) (ix3 (batch1 t) r d) := by
  blk_ext [iblk1, idx1_0 t, batch1]
theorem first_block (r : Fin 128) :
    (iblk1 V c 1 t : Vec Ideal S1x1x128 .i32) (ix3 0 0 r) = (V c main_v42 : Vec Ideal S16x1x128 .i32) (ix3 (batch1 t) 0 r) := by
  blk_ext [iblk1, idx1_1 t, batch1]
theorem second_block (r : Fin 128) :
    (iblk1 V c 2 t : Vec Ideal S1x1x128 .i32) (ix3 0 0 r) = (V c main_v43 : Vec Ideal S16x1x128 .i32) (ix3 (batch1 t) 0 r) := by
  blk_ext [iblk1, idx1_2 t, batch1]
theorem left_block (r : Fin 512) :
    (iblk1 V c 3 t : Vec Ideal S1x1x512 .f32) (ix3 0 0 r) = (V c main_v44 : Vec Ideal S16x1x512 .f32) (ix3 (batch1 t) 0 r) := by
  blk_ext [iblk1, idx1_3 t, batch1]
end Blocks

/-! ## What a body leaves -/

theorem out1_4_eq (x0 : Vec Ideal S1x512x2048 .f32) (x1 x2 : Vec Ideal S1x1x128 .i32) (x3 : Vec Ideal S1x1x512 .f32) :
    out1_4 x0 x1 x2 x3 = k1_pay3 x0 x1 x2 := by
  unfold out1_4
  rw [View.canon_cons_unit_lit, View.ld_unit_lit (S := S1x512x2048) (off := ![0, 0, 0]), View.ld_unit_lit (S := S1x1x128) (off := ![0, 0, 0]), View.ld_unit_lit (S := S1x1x128) (off := ![0, 0, 0])] <;> decide
theorem out1_5_eq (x0 : Vec Ideal S1x512x2048 .f32) (x1 x2 : Vec Ideal S1x1x128 .i32) (x3 : Vec Ideal S1x1x512 .f32) :
    out1_5 x0 x1 x2 x3 = k1_pay1 (k1_pay2 x0) (k1_pay4 x3) (k1_pay5 x3) := by
  unfold out1_5
  rw [View.canon_cons_unit_lit, View.ld_unit_lit (S := S1x512x2048) (off := ![0, 0, 0]), View.ld_unit_lit (S := S1x1x512) (off := ![0, 0, 0])] <;> decide

variable (m : (ℓ : Loc nD τ sig) → Buf (Elt Ideal) ℓ) (c : Dev nD)

/-! ## The arrays -/

/-- The array of pairs. -/
def pairsAll : Vec Ideal S16x128x4096 .f32 := fun y => sideBySide (rows m c (y 0)) (pair (scores m c (y 0)) (y 1).val) (y 2)
/-- The array of rows left. -/
def restAll : Vec Ideal S16x256x2048 .f32 := fun y => rows m c (y 0) (nth (avail (scores m c (y 0)) 128) (enough _) (y 1)) (y 2)

theorem row_entry (b : Fin 16) (r : Fin 512) (d : Fin 2048) :
    (U7 m c main_arg0 : Vec Ideal S16x512x2048 .f32) (ix3 b r d) = rows m c b r d :=
  congrFun (B7_args m c main_arg0 (by decide)) _

theorem pairs_point (t : Fin cfg1.N) (r : Fin 128) (d : Fin 4096) :
    out1_4 (iblk1 (U7 m) c 0 t) (iblk1 (U7 m) c 1 t) (iblk1 (U7 m) c 2 t) (iblk1 (U7 m) c 3 t) (ix3 0 r d)
      = pairsAll m c (ix3 (batch1 t) r d) := by
  rw [out1_4_eq]
  refine (pairs_read _ _ _ r d _ _ ((first_block (U7 m) c t r).trans (first_entry m c _ r)) ((second_block (U7 m) c t r).trans (second_entry m c _ r))).trans ?_
  show _ = sideBySide (rows m c (batch1 t)) (pair (scores m c (batch1 t)) r.val) d
  unfold sideBySide
  by_cases h : d.val < 2048
  · rw [dif_pos h, dif_pos h]
    exact (rows_block (U7 m) c t _ _).trans (row_entry m c _ _ _)
  · rw [dif_neg h, dif_neg h]
    exact (rows_block (U7 m) c t _ _).trans (row_entry m c _ _ _)

theorem rest_point (t : Fin cfg1.N) (r : Fin 256) (d : Fin 2048) :
    out1_5 (iblk1 (U7 m) c 0 t) (iblk1 (U7 m) c 1 t) (iblk1 (U7 m) c 2 t) (iblk1 (U7 m) c 3 t) (ix3 0 r d)
      = restAll m c (ix3 (batch1 t) r d) := by
  have h3 : ∀ q, (iblk1 (U7 m) c 3 t : Vec Ideal S1x1x512 .f32) (ix3 0 0 q) = if q ∈ avail (scores m c (batch1 t)) 128 then (1 : EReal) else 0 :=
    fun q => (left_block (U7 m) c t q).trans (left_entry m c _ q)
  rw [out1_5_eq]
  refine (rest_read _ _ _ (avail (scores m c (batch1 t)) 128) (enough _) (fun q => ?_) (fun q => rank_read _ _ h3 q) r d).trans ?_
  · refine Eq.trans ?_ (h3 q)
    pointwise [k1_pay4]
  · rw [pay2_read]
    exact (rows_block (U7 m) c t _ _).trans (row_entry m c _ _ _)

theorem arr_pairs : (dat1 (U7 m) c).arrAt 4 cfg1.N = pairsAll m c := by
  refine (dat1 (U7 m) c).arrAt_eq_of_covers 4 _ (by decide +kernel) fun t hf y => ?_
  blk_simp
  rw [after1_4]
  have ey : y = ix3 0 (y 1) (y 2) := by blk_ext []
  rw [ey]
  refine (pairs_point m c t (y 1) (y 2)).trans (congrArg (pairsAll m c) ?_)
  blk_ext [idx1_4 t, batch1]

theorem arr_rest : (dat1 (U7 m) c).arrAt 5 cfg1.N = restAll m c := by
  refine (dat1 (U7 m) c).arrAt_eq_of_covers 5 _ (by decide +kernel) fun t hf y => ?_
  blk_simp
  rw [after1_5]
  have ey : y = ix3 0 (y 1) (y 2) := by blk_ext []
  rw [ey]
  refine (rest_point m c t (y 1) (y 2)).trans (congrArg (restAll m c) ?_)
  blk_ext [idx1_5 t, batch1]

end Cert.KernelIdeal.Call
end
-- ==== Proof.KCall2.lean ====
/- The third call's array, and with it the program's result, read at an index. -/
module

public import proofs.«01_k».proof.Proof.KCall1

@[expose] public section

set_option maxRecDepth 16384

noncomputable section

namespace Cert.KernelIdeal.Call

open Cert.KernelIdeal.Gen
open Idealize.ShloMosaic Idealize.ShloMosaic.TcCoe Idealize.ShloMosaic.Tactic Idealize.ShloMosaic.StableHlo
open Cert.Greedy

/-! ## The multilayer perceptron of one row -/

theorem mlp_read (x0 : Vec Ideal S512x4096 .bf16) (x1 : Vec Ideal S4096x2048 .bf16) (x2 : Vec Ideal S1x2048 .f32) (x3 : Vec Ideal S2048x2048 .bf16)
    (x4 : Vec Ideal S1x2048 .f32) (r : Fin 512) (d : Fin 2048) :
    k2_pay1 x0 x1 x2 x3 x4 (ix2 r d) = mlp (fun k => x0 (ix2 r k)) (fun k e => x1 (ix2 k e)) (fun e => x2 (ix2 0 e)) (fun e d => x3 (ix2 e d))
      (fun d => x4 (ix2 0 d)) d := by
  pointwise [k2_pay1]
  rfl

/-! ## Where the blocks lie -/

theorem idx2_0 : ∀ t : Fin cfg2.N, win2_0.index t = ![t.val, 0] := (by decide +kernel : ∀ t : Fin grid2.N, win2_0.index t = ![t.val, 0])
theorem idx2_1 : ∀ t : Fin cfg2.N, win2_1.index t = ![0, 0] := (by decide +kernel : ∀ t : Fin grid2.N, win2_1.index t = ![0, 0])
theorem idx2_2 : ∀ t : Fin cfg2.N, win2_2.index t = ![0, 0] := (by decide +kernel : ∀ t : Fin grid2.N, win2_2.index t = ![0, 0])
theorem idx2_3 : ∀ t : Fin cfg2.N, win2_3.index t = ![0, 0] := (by decide +kernel : ∀ t : Fin grid2.N, win2_3.index t = ![0, 0])
theorem idx2_4 : ∀ t : Fin cfg2.N, win2_4.index t = ![0, 0] := (by decide +kernel : ∀ t : Fin grid2.N, win2_4.index t = ![0, 0])
theorem idx2_5 : ∀ t : Fin cfg2.N, win2_5.index t = ![t.val, 0] := (by decide +kernel : ∀ t : Fin grid2.N, win2_5.index t = ![t.val, 0])

/-- The place of a block's row in the whole array. -/
def place (t : Fin cfg2.N) (r : Fin 512) : Fin 2048 := ⟨512 * t.val + r.val, by have := lt_of_lt_of_eq t.isLt N_2; have := r.isLt; omega⟩

section Blocks
variable (V : (c : Dev nD) → (b : Ref sig .tc) → Buf (Elt Ideal) ((c : Thread nD τ).loc b)) (c : Dev nD) (t : Fin cfg2.N)

theorem in_block (r : Fin 512) (k : Fin 4096) :
    (iblk2 V c 0 t : Vec Ideal S512x4096 .bf16) (ix2 r k) = (V c main_v47 : Vec Ideal S2048x4096 .bf16) (ix2 (place t r) k) := by
  blk_ext [iblk2, idx2_0 t, place]
theorem w1_block (k : Fin 4096) (e : Fin 2048) :
    (iblk2 V c 1 t : Vec Ideal S4096x2048 .bf16) (ix2 k e) = (V c main_v48 : Vec Ideal S4096x2048 .bf16) (ix2 k e) := by
  blk_ext [iblk2, idx2_1 t]
theorem b1_block (e : Fin 2048) :
    (iblk2 V c 2 t : Vec Ideal S1x2048 .f32) (ix2 0 e) = (V c main_v49 : Vec Ideal S1x2048 .f32) (ix2 0 e) := by
  blk_ext [iblk2, idx2_2 t]
theorem w2_block (k : Fin 2048) (e : Fin 2048) :
    (iblk2 V c 3 t : Vec Ideal S2048x2048 .bf16) (ix2 k e) = (V c main_v50 : Vec Ideal S2048x2048 .bf16) (ix2 k e) := by
  blk_ext [iblk2, idx2_3 t]
theorem b2_block (e : Fin 2048) :
    (iblk2 V c 4 t : Vec Ideal S1x2048 .f32) (ix2 0 e) = (V c main_v51 : Vec Ideal S1x2048 .f32) (ix2 0 e) := by
  blk_ext [iblk2, idx2_4 t]
end Blocks

theorem out2_5_eq (x0 : Vec Ideal S512x4096 .bf16) (x1 : Vec Ideal S4096x2048 .bf16) (x2 : Vec Ideal S1x2048 .f32) (x3 : Vec Ideal S2048x2048 .bf16)
    (x4 : Vec Ideal S1x2048 .f32) : out2_5 x0 x1 x2 x3 x4 = k2_pay1 x0 x1 x2 x3 x4 := by
  unfold out2_5
  rw [View.canon_cons_unit_lit, View.ld_unit_lit (S := S512x4096) (off := ![0, 0]), View.ld_unit_lit (S := S4096x2048) (off := ![0, 0]),
    View.ld_unit_lit (S := S1x2048) (off := ![0, 0]), View.ld_unit_lit (S := S2048x2048) (off := ![0, 0]), View.ld_unit_lit (S := S1x2048) (off := ![0, 0])] <;> decide

/-! ## The host stretches around the call -/

section Host
variable (V : Valuation τ sig (Elt Ideal))

theorem v47_read (b : Fin 2048) (k : Fin 4096) :
    (after hostOps2 V (Proc.devRef .tc main_v47) : Vec Ideal S2048x4096 .bf16) (ix2 b k) =
      (V (Proc.devRef .tc main_v45_0) : Vec Ideal S16x128x4096 .f32) (ix3 (⟨b.val / 128, by omega⟩ : Fin 16) (⟨b.val % 128, by omega⟩ : Fin 128) k) := by
  after_reads_at
  try rfl
theorem v48_read (k : Fin 4096) (e : Fin 2048) :
    (after hostOps2 V (Proc.devRef .tc main_v48) : Vec Ideal S4096x2048 .bf16) (ix2 k e) =
      (V (Proc.devRef .tc main_arg5) : Vec Ideal S4096x2048 .f32) (ix2 k e) := by
  after_reads_at
  try rfl
theorem v49_read (e : Fin 2048) :
    (after hostOps2 V (Proc.devRef .tc main_v49) : Vec Ideal S1x2048 .f32) (ix2 0 e) =
      (V (Proc.devRef .tc main_arg6) : Vec Ideal S2048 .f32) (ix1 e) := by
  after_reads_at
  try rfl
theorem v50_read (k : Fin 2048) (e : Fin 2048) :
    (after hostOps2 V (Proc.devRef .tc main_v50) : Vec Ideal S2048x2048 .bf16) (ix2 k e) =
      (V (Proc.devRef .tc main_arg7) : Vec Ideal S2048x2048 .f32) (ix2 k e) := by
  after_reads_at
  try rfl
theorem v51_read (e : Fin 2048) :
    (after hostOps2 V (Proc.devRef .tc main_v51) : Vec Ideal S1x2048 .f32) (ix2 0 e) =
      (V (Proc.devRef .tc main_arg8) : Vec Ideal S2048 .f32) (ix1 e) := by
  after_reads_at
  try rfl
theorem v54_read (b : Fin 16) (p : Fin 384) (d : Fin 2048) :
    (after hostOps3 V (Proc.devRef .tc main_v54) : Vec Ideal S16x384x2048 .f32) (ix3 b p d) =
      if h : p.val < 128 then (V (Proc.devRef .tc main_v52) : Vec Ideal S2048x2048 .f32) (ix2 (⟨b.val * 128 + p.val, by omega⟩ : Fin 2048) d)
      else (V (Proc.devRef .tc main_v45_1) : Vec Ideal S16x256x2048 .f32) (ix3 b (⟨p.val - 128, by omega⟩ : Fin 256) d) := by
  after_reads_at
end Host

variable (m : (ℓ : Loc nD τ sig) → Buf (Elt Ideal) ℓ) (c : Dev nD)

/-! ## The parameters, as launched -/

def w1 (k : Fin 4096) (e : Fin 2048) : EReal := (m ((c : Thread nD τ).loc main_arg5) : Vec Ideal S4096x2048 .f32) (ix2 k e)
def b1 (e : Fin 2048) : EReal := (m ((c : Thread nD τ).loc main_arg6) : Vec Ideal S2048 .f32) (ix1 e)
def w2 (k : Fin 2048) (e : Fin 2048) : EReal := (m ((c : Thread nD τ).loc main_arg7) : Vec Ideal S2048x2048 .f32) (ix2 k e)
def b2 (e : Fin 2048) : EReal := (m ((c : Thread nD τ).loc main_arg8) : Vec Ideal S2048 .f32) (ix1 e)

/-- The perceptron of a pair's two rows. -/
def merged (b : Fin 16) (p : Fin 128) (d : Fin 2048) : EReal :=
  mlp (sideBySide (rows m c b) (pair (scores m c b) p.val)) (w1 m c) (b1 m c) (w2 m c) (b2 m c) d

/-! ## What the call is given -/

theorem in_entry (q : Fin 2048) (k : Fin 4096) :
    (U9 m c main_v47 : Vec Ideal S2048x4096 .bf16) (ix2 q k) =
      sideBySide (rows m c (⟨q.val / 128, by omega⟩ : Fin 16)) (pair (scores m c (⟨q.val / 128, by omega⟩ : Fin 16)) (q.val % 128)) k :=
  (v47_read (B8 m c) q k).trans (congrFun ((B8_arr m c 4).trans (arr_pairs m c)) _)
theorem w1_entry (k : Fin 4096) (e : Fin 2048) : (U9 m c main_v48 : Vec Ideal S4096x2048 .bf16) (ix2 k e) = w1 m c k e :=
  (v48_read (B8 m c) k e).trans (congrFun (B8_args m c main_arg5 (by decide)) _)
theorem b1_entry (e : Fin 2048) : (U9 m c main_v49 : Vec Ideal S1x2048 .f32) (ix2 0 e) = b1 m c e :=
  (v49_read (B8 m c) e).trans (congrFun (B8_args m c main_arg6 (by decide)) _)
theorem w2_entry (k : Fin 2048) (e : Fin 2048) : (U9 m c main_v50 : Vec Ideal S2048x2048 .bf16) (ix2 k e) = w2 m c k e :=
  (v50_read (B8 m c) k e).trans (congrFun (B8_args m c main_arg7 (by decide)) _)
theorem b2_entry (e : Fin 2048) : (U9 m c main_v51 : Vec Ideal S1x2048 .f32) (ix2 0 e) = b2 m c e :=
  (v51_read (B8 m c) e).trans (congrFun (B8_args m c main_arg8 (by decide)) _)

/-! ## The array -/

/-- The array of merged rows, the batches one below another. -/
def mergedAll : Vec Ideal S2048x2048 .f32 := fun y =>
  mlp (fun k => (U9 m c main_v47 : Vec Ideal S2048x4096 .bf16) (ix2 (y 0) k)) (w1 m c) (b1 m c) (w2 m c) (b2 m c) (y 1)

theorem merged_point (t : Fin cfg2.N) (r : Fin 512) (d : Fin 2048) :
    out2_5 (iblk2 (U9 m) c 0 t) (iblk2 (U9 m) c 1 t) (iblk2 (U9 m) c 2 t) (iblk2 (U9 m) c 3 t) (iblk2 (U9 m) c 4 t) (ix2 r d)
      = mergedAll m c (ix2 (place t r) d) := by
  rw [out2_5_eq, mlp_read]
  have h0 : (fun k => (iblk2 (U9 m) c 0 t : Vec Ideal S512x4096 .bf16) (ix2 r k)) = fun k => (U9 m c main_v47 : Vec Ideal S2048x4096 .bf16) (ix2 (place t r) k) :=
    funext fun k => in_block (U9 m) c t r k
  have h1 : (fun k e => (iblk2 (U9 m) c 1 t : Vec Ideal S4096x2048 .bf16) (ix2 k e)) = w1 m c :=
    funext fun k => funext fun e => (w1_block (U9 m) c t k e).trans (w1_entry m c k e)
  have h2 : (fun e => (iblk2 (U9 m) c 2 t : Vec Ideal S1x2048 .f32) (ix2 0 e)) = b1 m c :=
    funext fun e => (b1_block (U9 m) c t e).trans (b1_entry m c e)
  have h3 : (fun k e => (iblk2 (U9 m) c 3 t : Vec Ideal S2048x2048 .bf16) (ix2 k e)) = w2 m c :=
    funext fun k => funext fun e => (w2_block (U9 m) c t k e).trans (w2_entry m c k e)
  have h4 : (fun e => (iblk2 (U9 m) c 4 t : Vec Ideal S1x2048 .f32) (ix2 0 e)) = b2 m c :=
    funext fun e => (b2_block (U9 m) c t e).trans (b2_entry m c e)
  rw [h0, h1, h2, h3, h4]
  rfl

theorem arr_merged : (dat2 (U9 m) c).arrAt 5 cfg2.N = mergedAll m c := by
  refine (dat2 (U9 m) c).arrAt_eq_of_covers 5 _ (by decide +kernel) fun t hf y => ?_
  blk_simp
  rw [after2_5]
  have ey : y = ix2 (y 0) (y 1) := by blk_ext []
  rw [ey]
  refine (merged_point m c t (y 0) (y 1)).trans (congrArg (mergedAll m c) ?_)
  blk_ext [idx2_5 t, place]

/-! ## The result -/

theorem merged_entry (b : Fin 16) (p : Fin 128) (d : Fin 2048) :
    (B10 m c (Proc.devRef .tc main_v52) : Vec Ideal S2048x2048 .f32) (ix2 (⟨b.val * 128 + p.val, by omega⟩ : Fin 2048) d) = merged m c b p d := by
  refine (congrFun ((B10_arr m c 5).trans (arr_merged m c)) _).trans ?_
  show mlp (fun k => (U9 m c main_v47 : Vec Ideal S2048x4096 .bf16) (ix2 (⟨b.val * 128 + p.val, by omega⟩ : Fin 2048) k)) _ _ _ _ _ = _
  unfold merged
  have hb : (⟨(b.val * 128 + p.val) / 128, by omega⟩ : Fin 16) = b := Fin.ext (by show (b.val * 128 + p.val) / 128 = b.val; omega)
  have hp : (b.val * 128 + p.val) % 128 = p.val := by omega
  refine congrArg (fun f => mlp f (w1 m c) (b1 m c) (w2 m c) (b2 m c) d) (funext fun k => (in_entry m c _ k).trans ?_)
  show sideBySide (rows m c (⟨(b.val * 128 + p.val) / 128, by omega⟩ : Fin 16)) (pair (scores m c (⟨(b.val * 128 + p.val) / 128, by omega⟩ : Fin 16)) ((b.val * 128 + p.val) % 128)) k = _
  rw [hb, hp]

theorem rest_entry (b : Fin 16) (r : Fin 256) (d : Fin 2048) :
    (B10 m c (Proc.devRef .tc main_v45_1) : Vec Ideal S16x256x2048 .f32) (ix3 b r d) = rows m c b (nth (avail (scores m c b) 128) (enough _) r) d := by
  have h : B10 m c (Proc.devRef .tc main_v45_1) = restAll m c :=
    (B10_of m c main_v45_1 (by decide)).trans ((B9_of m c main_v45_1 (by decide)).trans ((B8_arr m c 5).trans (arr_rest m c)))
  exact congrFun h _

/-- The program's result: first each batch's merged pairs, then its rows left, in order. -/
theorem kernel_result (b : Fin 16) (p : Fin 384) (d : Fin 2048) :
    (B11 m c (Proc.devRef .tc main_v54) : Vec Ideal S16x384x2048 .f32) (ix3 b p d) =
      if h : p.val < 128 then merged m c b ⟨p.val, h⟩ d
      else rows m c b (nth (avail (scores m c b) 128) (enough _) ⟨p.val - 128, by omega⟩) d := by
  refine (v54_read (B10 m c) b p d).trans ?_
  by_cases h : p.val < 128
  · rw [dif_pos h, dif_pos h]
    exact merged_entry m c b ⟨p.val, h⟩ d
  · rw [dif_neg h, dif_neg h]
    exact rest_entry m c b _ d

end Cert.KernelIdeal.Call
end
-- ==== Proof.RefLoop.lean ====
/- The reference's loop, over the extended reals: after `k` trips its carried buffers hold the tokens left and the first `k` pairs
   of the greedy selection from the scores it was entered with. -/
module

public import proofs.«01_k».proof.Proof.Greedy
public import proofs.«01_k».proof.Proof.Gen.ReferenceIdeal.Run
public import Idealize.ShloMosaic.Lib.Pointwise
public import Idealize.ShloMosaic.Lib.Tactic.CleanTypes
public import Idealize.ShloMosaic.Lib.WordArith
public import Idealize.ShloMosaic.Lib.Routing.Words
public import Idealize.ShloMosaic.PureOps.Ideal

@[expose] public section

set_option maxRecDepth 16384

noncomputable section

namespace Cert.ReferenceIdeal.Value

open Cert.ReferenceIdeal.Gen
open Idealize.ShloMosaic Idealize.ShloMosaic.TcCoe Idealize.ShloMosaic.Tactic
open Cert.Greedy

/-- The least of finitely many words that are small numbers. -/
theorem fold_minsi {n : ℕ} (f : Fin n → BitVec 32) (g : Fin n → ℕ) (hf : ∀ x, f x = BitVec.ofNat 32 (g x)) (hg : ∀ x, g x < 2 ^ 31 - 1)
    (k : Fin n) (hk : ∀ x, g k ≤ g x) : Finset.fold IntOp.minsi 2147483647#32 f Finset.univ = BitVec.ofNat 32 (g k) := by
  have key : ∀ s : Finset (Fin n), ∃ v, v < 2 ^ 31 ∧ Finset.fold IntOp.minsi 2147483647#32 f s = BitVec.ofNat 32 v ∧ (∀ x ∈ s, v ≤ g x) ∧
      (v = 2147483647 ∨ ∃ x ∈ s, v = g x) := by
    intro s
    induction s using Finset.induction with
    | empty => exact ⟨2147483647, by norm_num, by simp, by simp, Or.inl rfl⟩
    | insert a s ha ih =>
      obtain ⟨v, hv, e, h1, h2⟩ := ih
      have hga := hg a
      refine ⟨min (g a) v, by omega, ?_, fun x hx => ?_, ?_⟩
      · rw [Finset.fold_insert ha, e, hf]
        apply BitVec.eq_of_toNat_eq
        rw [WordArith.toNat_minsi_of_lt _ _ (by rw [BitVec.toNat_ofNat]; omega) (by rw [BitVec.toNat_ofNat]; omega)]
        simp only [BitVec.toNat_ofNat]
        omega
      · rcases Finset.mem_insert.mp hx with rfl | hx
        · omega
        · have := h1 x hx; omega
      · by_cases h : g a ≤ v
        · exact Or.inr ⟨a, Finset.mem_insert_self _ _, by omega⟩
        · rcases h2 with h2 | ⟨x, hx, h2⟩
          · omega
          · exact Or.inr ⟨x, Finset.mem_insert_of_mem hx, by omega⟩
  obtain ⟨v, hv, e, h1, h2⟩ := key Finset.univ
  rw [e]
  have := h1 k (Finset.mem_univ k)
  rcases h2 with h2 | ⟨x, -, h2⟩
  · have := hg k; omega
  · have := hk x; congr 1; omega

/-- A score where both tokens are left, and −∞ elsewhere, over the flat places. -/
theorem greatest {sc : Fin 512 → Fin 512 → EReal} {A : Finset (Fin 512)} (hA : A.Nonempty) {u : Fin 262144 → EReal}
    (hu : ∀ k : Fin 262144, u k = if (⟨k.val / 512, by omega⟩ : Fin 512) ∈ A ∧ (⟨k.val % 512, by omega⟩ : Fin 512) ∈ A
      then sc ⟨k.val / 512, by omega⟩ ⟨k.val % 512, by omega⟩ else ⊥) :
    Finset.fold max ⊥ u Finset.univ = sc (pick sc A).1 (pick sc A).2 := by
  have hp := pick_spec sc hA
  have h1 := (pick sc A).1.isLt
  have h2 := (pick sc A).2.isLt
  show Finset.univ.sup u = _
  refine le_antisymm (Finset.sup_le fun k _ => ?_) ?_
  · rw [hu]; split
    · rename_i h; exact hp.max _ h.1 _ h.2
    · exact bot_le
  · have e : u ⟨(pick sc A).1.val * 512 + (pick sc A).2.val, by omega⟩ = sc (pick sc A).1 (pick sc A).2 := by
      have e1 : (⟨((pick sc A).1.val * 512 + (pick sc A).2.val) / 512, by omega⟩ : Fin 512) = (pick sc A).1 := Fin.ext (by dsimp only; omega)
      have e2 : (⟨((pick sc A).1.val * 512 + (pick sc A).2.val) % 512, by omega⟩ : Fin 512) = (pick sc A).2 := Fin.ext (by dsimp only; omega)
      rw [hu]; simp only [e1, e2]
      rw [if_pos ⟨hp.fst_mem, hp.snd_mem⟩]
    rw [← e]; exact Finset.le_sup (f := u) (Finset.mem_univ _)

/-- The least flat place that attains it is the pick's. -/
theorem place {sc : Fin 512 → Fin 512 → EReal} (hg : Good sc) {A : Finset (Fin 512)} (hA : A.Nonempty) {u : Fin 262144 → EReal}
    (hu : ∀ k : Fin 262144, u k = if (⟨k.val / 512, by omega⟩ : Fin 512) ∈ A ∧ (⟨k.val % 512, by omega⟩ : Fin 512) ∈ A
      then sc ⟨k.val / 512, by omega⟩ ⟨k.val % 512, by omega⟩ else ⊥) :
    Finset.fold IntOp.minsi 2147483647#32
      (fun k : Fin 262144 => if u k = Finset.fold max ⊥ u Finset.univ then BitVec.ofNat 32 k.val else 262144#32) Finset.univ
      = BitVec.ofNat 32 ((pick sc A).1.val * 512 + (pick sc A).2.val) := by
  have hp := pick_spec sc hA
  have h1 := (pick sc A).1.isLt
  have h2 := (pick sc A).2.isLt
  rw [greatest hA hu]
  have e : u ⟨(pick sc A).1.val * 512 + (pick sc A).2.val, by omega⟩ = sc (pick sc A).1 (pick sc A).2 := by
    have e1 : (⟨((pick sc A).1.val * 512 + (pick sc A).2.val) / 512, by omega⟩ : Fin 512) = (pick sc A).1 := Fin.ext (by dsimp only; omega)
    have e2 : (⟨((pick sc A).1.val * 512 + (pick sc A).2.val) % 512, by omega⟩ : Fin 512) = (pick sc A).2 := Fin.ext (by dsimp only; omega)
    rw [hu]; simp only [e1, e2]
    rw [if_pos ⟨hp.fst_mem, hp.snd_mem⟩]
  classical
  have h := fold_minsi (n := 262144) (fun k => if u k = sc (pick sc A).1 (pick sc A).2 then BitVec.ofNat 32 k.val else 262144#32)
    (fun k => if u k = sc (pick sc A).1 (pick sc A).2 then k.val else 262144) (fun k => by split <;> rfl)
    (fun k => by have := k.isLt; split <;> omega) ⟨(pick sc A).1.val * 512 + (pick sc A).2.val, by omega⟩ (fun k => by
      dsimp only
      rw [if_pos e]
      split
      · rename_i hk
        rw [hu] at hk
        split at hk
        · rename_i hm
          have := hp.first _ hm.1 _ hm.2 hk
          simp only [Fin.lt_def, Fin.le_def, Fin.ext_iff] at this
          omega
        · exact absurd hk (ne_of_lt ((EReal.bot_lt_coe _).trans_le (hg.lower _ _)))
      · omega)
  rw [if_pos e] at h
  rw [← h]

/-- The carried buffers after `n` trips. -/
structure RefAt (sc : Fin 16 → Fin 512 → Fin 512 → EReal) (n : ℕ) (V : Valuation τ sig (Elt Ideal)) : Prop where
  score : ∀ b r c, (V (Proc.devRef .tc main_v60_0) : Vec Ideal S16x512x512 .f32) (ix3 b r c) = sc b r c
  count : (V (Proc.devRef .tc main_v60_2) : IVec S_ 32) ix0 = BitVec.ofNat 32 n
  left : ∀ b q, (V (Proc.devRef .tc main_v60_3) : IVec S16x512 1) (ix2 b q) = if q ∈ avail (sc b) n then 1#1 else 0#1
  fst : ∀ b (t : Fin 128), t.val < n → (V (Proc.devRef .tc main_v60_4) : IVec S16x128 32) (ix2 b t) = BitVec.ofNat 32 (pair (sc b) t.val).1.val
  snd : ∀ b (t : Fin 128), t.val < n → (V (Proc.devRef .tc main_v60_5) : IVec S16x128 32) (ix2 b t) = BitVec.ofNat 32 (pair (sc b) t.val).2.val

section Step

variable {sc : Fin 16 → Fin 512 → Fin 512 → EReal} (hg : ∀ b, Good (sc b)) {n : ℕ} (hn : n < 128) {V : Valuation τ sig (Elt Ideal)} (h : RefAt sc n V)

theorem ofBits_ninf : Ideal.ofBits .f32 0xFF800000#32 = ⊥ := by simp [Ideal.ofBits, Ideal.ieee]

theorem select_bits {p q : Prop} [Decidable p] [Decidable q] {a b : BitVec 1} {x x' y y' : EReal} (ha : a = if p then 1#1 else 0#1)
    (hb : b = if q then 1#1 else 0#1) (hx : x = x') (hy : y = y') : Scalar.select (IntOp.andi a b) x y = if p ∧ q then x' else y' := by
  subst ha hb hx hy
  by_cases hp : p <;> by_cases hq : q <;> simp [hp, hq, Scalar.select, IntOp.andi]

theorem keep_bits {p : Prop} [Decidable p] {a : BitVec 1} (ha : a = if p then 1#1 else 0#1) {q i j : ℕ} (hq : q < 512) (hi : i < 512) (hj : j < 512) :
    IntOp.andi (IntOp.andi a (IntOp.cmpi .ne (BitVec.ofNat 32 q) (BitVec.ofNat 32 i))) (IntOp.cmpi .ne (BitVec.ofNat 32 q) (BitVec.ofNat 32 j))
      = if p ∧ q ≠ i ∧ q ≠ j then 1#1 else 0#1 := by
  have inj : ∀ {a b : ℕ}, a < 512 → b < 512 → (IntOp.cmpi .ne (BitVec.ofNat 32 a) (BitVec.ofNat 32 b)) = if a ≠ b then 1#1 else 0#1 := by
    intro a b ha hb
    have : BitVec.ofNat 32 a = BitVec.ofNat 32 b ↔ a = b := by
      rw [← BitVec.toNat_inj, BitVec.toNat_ofNat, BitVec.toNat_ofNat]; omega
    by_cases h : a = b
    · subst h; simp [IntOp.cmpi]
    · have hne : BitVec.ofNat 32 a ≠ BitVec.ofNat 32 b := fun e => h (this.mp e)
      simp [IntOp.cmpi, h, bne_iff_ne.mpr hne]
  rw [inj hq hi, inj hq hj]
  subst ha
  by_cases hp : p <;> by_cases h1 : q = i <;> by_cases h2 : q = j <;> simp [hp, h1, h2, IntOp.andi]

theorem put_bits {t n : ℕ} (ht : t < 128) (hn : n < 128) {c x y : BitVec 32} (hc : c = BitVec.ofNat 32 n) :
    Scalar.select (IntOp.cmpi .eq (BitVec.ofNat 32 t) c) x y = if t = n then x else y := by
  subst hc
  have : BitVec.ofNat 32 t = BitVec.ofNat 32 n ↔ t = n := by
    rw [← BitVec.toNat_inj, BitVec.toNat_ofNat, BitVec.toNat_ofNat]; omega
  by_cases h : t = n
  · subst h; simp [IntOp.cmpi, Scalar.select]
  · have hne : BitVec.ofNat 32 t ≠ BitVec.ofNat 32 n := fun e => h (this.mp e)
    simp [IntOp.cmpi, Scalar.select, h, beq_eq_false_iff_ne.mpr hne]

include h in
theorem masked (b : Fin 16) (k : Fin 262144) : (res_main_while0b_v102 V : Vec Ideal S16x262144 .f32) (ix2 b k)
    = if (⟨k.val / 512, by omega⟩ : Fin 512) ∈ avail (sc b) n ∧ (⟨k.val % 512, by omega⟩ : Fin 512) ∈ avail (sc b) n
      then sc b ⟨k.val / 512, by omega⟩ ⟨k.val % 512, by omega⟩ else ⊥ := by
  have e0 := h.score b ⟨k.val / 512, by omega⟩ ⟨k.val % 512, by omega⟩
  have e1 := h.left b ⟨k.val / 512, by omega⟩
  have e2 := h.left b ⟨k.val % 512, by omega⟩
  unfold res_main_while0b_v102
  clean_types
  pointwise []
  exact select_bits e1 e2 e0 ofBits_ninf

include h hg hn in
theorem flat (b : Fin 16) : (res_main_while0b_v110 V : IVec S16 32) (ix1 b)
    = BitVec.ofNat 32 ((pair (sc b) n).1.val * 512 + (pair (sc b) n).2.val) := by
  have hm := masked h b
  unfold res_main_while0b_v110
  clean_types
  generalize (res_main_while0b_v102 V) = u at hm ⊢
  pointwise []
  have := place (hg b) (avail_nonempty (sc b) (by omega)) (u := fun k => u (ix2 b k)) hm
  rw [ofBits_ninf]
  exact this

include h hg hn in
theorem row (b : Fin 16) : (res_main_while0b_v112 V : IVec S16 32) (ix1 b) = BitVec.ofNat 32 (pair (sc b) n).1.val := by
  have hf := flat hg hn h b
  have h1 := (pair (sc b) n).1.isLt
  have h2 := (pair (sc b) n).2.isLt
  unfold res_main_while0b_v112
  clean_types
  generalize (res_main_while0b_v110 V) = u at hf ⊢
  pointwise []
  rw [show u (ix1 b) = _ from hf]
  refine (Routing.divsi_word .host (b := 512) (by omega) (by norm_num) (by norm_num)).trans ?_
  congr 1; omega

include h hg hn in
theorem col (b : Fin 16) : (res_main_while0b_v114 V : IVec S16 32) (ix1 b) = BitVec.ofNat 32 (pair (sc b) n).2.val := by
  have hf := flat hg hn h b
  have h1 := (pair (sc b) n).1.isLt
  have h2 := (pair (sc b) n).2.isLt
  unfold res_main_while0b_v114
  clean_types
  generalize (res_main_while0b_v110 V) = u at hf ⊢
  pointwise []
  rw [show u (ix1 b) = _ from hf]
  refine (Routing.remsi_word .host (b := 512) (by omega) (by norm_num) (by norm_num)).trans ?_
  congr 1; omega

include h hg hn in
theorem next_left (b : Fin 16) (q : Fin 512) : (step_main_v60_3 V : IVec S16x512 1) (ix2 b q) = if q ∈ avail (sc b) (n + 1) then 1#1 else 0#1 := by
  have hr := row hg hn h b
  have hc := col hg hn h b
  have hl := h.left b q
  unfold step_main_v60_3
  clean_types
  simp only [id]
  generalize (res_main_while0b_v112 V) = u at hr ⊢
  generalize (res_main_while0b_v114 V) = v at hc ⊢
  unfold res_main_while0b_v90
  clean_types
  pointwise []
  rw [show u (ix1 b) = _ from hr, show v (ix1 b) = _ from hc]
  refine (keep_bits hl q.isLt (pair (sc b) n).1.isLt (pair (sc b) n).2.isLt).trans ?_
  refine if_congr ?_ rfl rfl
  simp only [mem_avail_succ, ne_eq, Fin.ext_iff]

include h hg hn in
theorem next_fst (b : Fin 16) (t : Fin 128) (ht : t.val < n + 1) :
    (step_main_v60_4 V : IVec S16x128 32) (ix2 b t) = BitVec.ofNat 32 (pair (sc b) t.val).1.val := by
  have hr := row hg hn h b
  have hk := h.count
  have hl := h.fst b t
  unfold step_main_v60_4
  clean_types
  simp only [id]
  generalize (res_main_while0b_v112 V) = u at hr ⊢
  unfold res_main_while0b_v91
  clean_types
  pointwise []
  rw [show u (ix1 b) = _ from hr]
  refine (put_bits t.isLt hn hk).trans ?_
  split
  · rename_i e; rw [e]
  · exact hl (by omega)

include h hg hn in
theorem next_snd (b : Fin 16) (t : Fin 128) (ht : t.val < n + 1) :
    (step_main_v60_5 V : IVec S16x128 32) (ix2 b t) = BitVec.ofNat 32 (pair (sc b) t.val).2.val := by
  have hr := col hg hn h b
  have hk := h.count
  have hl := h.snd b t
  unfold step_main_v60_5
  clean_types
  simp only [id]
  generalize (res_main_while0b_v114 V) = u at hr ⊢
  unfold res_main_while0b_v91
  clean_types
  pointwise []
  rw [show u (ix1 b) = _ from hr]
  refine (put_bits t.isLt hn hk).trans ?_
  split
  · rename_i e; rw [e]
  · exact hl (by omega)

include h hg hn in
/-- One trip. -/
theorem RefAt.step : RefAt sc (n + 1) (STEP V) where
  score b r c := by rw [STEP_main_v60_0]; exact h.score b r c
  count := by
    have hk := h.count
    rw [STEP_main_v60_2]
    unfold step_main_v60_2
    clean_types
    simp only [id]
    pointwise []
    refine (congrArg (fun x => IntOp.addi x 1#32) hk).trans ?_
    show BitVec.ofNat 32 n + BitVec.ofNat 32 1 = BitVec.ofNat 32 (n + 1)
    rw [BitVec.ofNat_add]
  left b q := by rw [STEP_main_v60_3]; exact next_left hg hn h b q
  fst b t ht := by rw [STEP_main_v60_4]; exact next_fst hg hn h b t ht
  snd b t ht := by rw [STEP_main_v60_5]; exact next_snd hg hn h b t ht

end Step

/-- `n` trips. -/
theorem RefAt.trips {sc : Fin 16 → Fin 512 → Fin 512 → EReal} (hg : ∀ b, Good (sc b)) {V : Valuation τ sig (Elt Ideal)} (h : RefAt sc 0 V) :
    ∀ n, n ≤ 128 → RefAt sc n (STEP^[n] V)
  | 0, _ => h
  | n + 1, hn => by
    rw [Function.iterate_succ_apply']
    exact RefAt.step hg (by omega) (RefAt.trips hg h n (by omega))

end Cert.ReferenceIdeal.Value

end
-- ==== Proof.RScore.lean ====
module

public import proofs.«01_k».proof.Proof.RefLoop
public import proofs.«01_k».proof.Proof.Score
public import Idealize.ShloMosaic.Lib.StableHlo.ReadAt

/-! # The loop's entry in the reference

The reference's buffers before its loop, read at an index: the scores are those of `Score`, every row is available, and
the count is zero. -/

@[expose] public section

set_option maxRecDepth 16384

noncomputable section

namespace Cert.ReferenceIdeal.Value

open Cert.ReferenceIdeal.Gen
open Idealize.ShloMosaic Idealize.ShloMosaic.TcCoe Idealize.ShloMosaic.Tactic Idealize.ShloMosaic.StableHlo
open Cert.Greedy

section Host
variable (V : Valuation τ sig (Elt Ideal))

theorem norm_read (b : Fin 16) (r : Fin 512) {x : Fin 2048 → EReal}
    (hx : ∀ d, (V (Proc.devRef .tc main_arg0) : Vec Ideal S16x512x2048 .f32) (ix3 b r d) = x d) :
    (after hostOps0_2 V (Proc.devRef .tc main_v32) : Vec Ideal S16x512x1 .f32) (ix3 b r 0) = Ideal.sqrt (∑ d, x d * x d) := by
  after_reads_at
  exact congrArg Ideal.sqrt (Finset.sum_congr rfl fun d _ => congrArg₂ (fun a b : EReal => a * b) (hx d) (hx d))

theorem quotient_read (b : Fin 16) (r q : Fin 512) {x : Fin 512 → Fin 2048 → EReal} {n w : Fin 512 → EReal}
    (hx : ∀ r d, (V (Proc.devRef .tc main_arg0) : Vec Ideal S16x512x2048 .f32) (ix3 b r d) = x r d)
    (hn : ∀ r, (V (Proc.devRef .tc main_v32) : Vec Ideal S16x512x1 .f32) (ix3 b r 0) = n r)
    (hw : ∀ r, (V (Proc.devRef .tc main_v31) : Vec Ideal S16x512x1 .f32) (ix3 b r 0) = w r) :
    (after hostOps0_3 V (Proc.devRef .tc main_v52) : Vec Ideal S16x512x512 .f32) (ix3 b r q)
      = Ideal.div (∑ d, Ideal.div (x r d) (max (n r) (Ideal.ofBits .f32 0x2B8CBCCC#32))
            * Ideal.div (x q d) (max (n q) (Ideal.ofBits .f32 0x2B8CBCCC#32)))
          (max (w r) (Ideal.ofBits .f32 0x3DCCCCCD#32) * max (w q) (Ideal.ofBits .f32 0x3DCCCCCD#32)) := by
  after_reads_at
  simp only [← hx, ← hn, ← hw]
  try rfl

theorem diag_read (r q : Fin 512) :
    (after hostOps0_3 V (Proc.devRef .tc main_v46) : IVec S1x512x512 1) (ix3 0 r q) = if r = q then 1#1 else 0#1 := by
  after_reads_at
  rw [show ∀ x : BitVec 32, IntOp.addi x 0#32 = x from fun x => BitVec.add_zero x]
  have hr := r.isLt
  have hq := q.isLt
  by_cases h : r = q
  · rw [if_pos h, h]
    simp [IntOp.cmpi]
  · have hne : BitVec.ofNat 32 r.val ≠ BitVec.ofNat 32 q.val := by
      intro e
      have := congrArg BitVec.toNat e
      simp only [BitVec.toNat_ofNat] at this
      omega
    rw [if_neg h]
    simp [IntOp.cmpi, beq_eq_false_iff_ne.mpr hne]

theorem low_read : (after hostOps0_3 V (Proc.devRef .tc main_cst_7) : Vec Ideal S_ .f32) ix0 = (Ideal.ofBits .f32 0xBF800000#32 : EReal) := by
  after_reads_at
  try rfl

theorem score_read (b : Fin 16) (r q : Fin 512) :
    (after hostOps0_4 V (Proc.devRef .tc main_v53) : Vec Ideal S16x512x512 .f32) (ix3 b r q)
      = Scalar.select ((V (Proc.devRef .tc main_v46) : IVec S1x512x512 1) (ix3 0 r q))
          ((V (Proc.devRef .tc main_cst_7) : Vec Ideal S_ .f32) ix0) ((V (Proc.devRef .tc main_v52) : Vec Ideal S16x512x512 .f32) (ix3 b r q)) := by
  after_reads_at
  try rfl

theorem count_read : (after hostOps0_5 V (Proc.devRef .tc main_v60_2) : IVec S_ 32) ix0 = 0#32 := by
  after_reads_at
  try rfl
theorem left_read (b : Fin 16) (r : Fin 512) : (after hostOps0_5 V (Proc.devRef .tc main_v60_3) : IVec S16x512 1) (ix2 b r) = 1#1 := by
  after_reads_at
  simp only [id]
  pointwise []
theorem carried_read (b : Fin 16) (r q : Fin 512) :
    (after hostOps0_5 V (Proc.devRef .tc main_v60_0) : Vec Ideal S16x512x512 .f32) (ix3 b r q)
      = (V (Proc.devRef .tc main_v53) : Vec Ideal S16x512x512 .f32) (ix3 b r q) := by
  after_reads_at
  try rfl

end Host

variable (m : (ℓ : Loc nD τ sig) → Buf (Elt Ideal) ℓ)

/-- The buffers once the importance stands. -/
abbrev W2 (c : Dev nD) : Valuation τ sig (Elt Ideal) := after hostOps0_1 (after hostOps0 fun b => m (c, b))
abbrev W3 (c : Dev nD) : Valuation τ sig (Elt Ideal) := after hostOps0_2 (W2 m c)
abbrev W4 (c : Dev nD) : Valuation τ sig (Elt Ideal) := after hostOps0_3 (W3 m c)
abbrev W5 (c : Dev nD) : Valuation τ sig (Elt Ideal) := after hostOps0_4 (W4 m c)

/-- The rows of batch `b`, as launched. -/
def rows (c : Dev nD) (b : Fin 16) (r : Fin 512) (d : Fin 2048) : EReal :=
  (m ((c : Thread nD τ).loc main_arg0) : Vec Ideal S16x512x2048 .f32) (ix3 b r d)

/-- The importance of row `r` of batch `b`, held from below at a tenth. -/
def weight (c : Dev nD) (b : Fin 16) (r : Fin 512) : EReal :=
  max ((W2 m c (Proc.devRef .tc main_v31) : Vec Ideal S16x512x1 .f32) (ix3 b r 0)) (Ideal.ofBits .f32 0x3DCCCCCD#32)

/-- The scores of batch `b`. -/
def scores (c : Dev nD) (b : Fin 16) : Fin 512 → Fin 512 → EReal := score (rows m c b) (weight m c b)

theorem good_scores (c : Dev nD) (b : Fin 16) : Good (scores m c b) := good_score _ fun _ => le_max_right _ _

theorem arg_of {ops : List (HloOp τ sig (Elt Ideal))} {W : List (Ref sig .tc)} (hw : ops.Forall fun op => op.writes ⊆ (W.map (Proc.devRef (τ := τ) .tc)).toFinset)
    (V : Valuation τ sig (Elt Ideal)) (r : Ref sig .tc) (h : r ∉ W) : after ops V (Proc.devRef .tc r) = V (Proc.devRef .tc r) :=
  after_of_writes_sub ops V hw h

theorem x_W2 (c : Dev nD) (b : Fin 16) (r : Fin 512) (d : Fin 2048) :
    (W2 m c (Proc.devRef .tc main_arg0) : Vec Ideal S16x512x2048 .f32) (ix3 b r d) = rows m c b r d := by
  unfold W2
  rw [arg_of hostOps0_1_writes _ main_arg0 (by decide), arg_of hostOps0_writes _ main_arg0 (by decide)]; rfl
theorem x_W3 (c : Dev nD) (b : Fin 16) (r : Fin 512) (d : Fin 2048) :
    (W3 m c (Proc.devRef .tc main_arg0) : Vec Ideal S16x512x2048 .f32) (ix3 b r d) = rows m c b r d := by
  unfold W3
  rw [arg_of hostOps0_2_writes _ main_arg0 (by decide)]; exact x_W2 m c b r d

theorem score_entry (c : Dev nD) (b : Fin 16) (r q : Fin 512) :
    (W5 m c (Proc.devRef .tc main_v53) : Vec Ideal S16x512x512 .f32) (ix3 b r q) = scores m c b r q := by
  have hx := x_W3 m c b
  have hn : ∀ r, (W3 m c (Proc.devRef .tc main_v32) : Vec Ideal S16x512x1 .f32) (ix3 b r 0)
      = Ideal.sqrt (∑ d : Fin 2048, rows m c b r d * rows m c b r d) := fun r => norm_read (W2 m c) b r (x_W2 m c b r)
  have hw : ∀ r, (W3 m c (Proc.devRef .tc main_v31) : Vec Ideal S16x512x1 .f32) (ix3 b r 0)
      = (W2 m c (Proc.devRef .tc main_v31) : Vec Ideal S16x512x1 .f32) (ix3 b r 0) := fun r => by
    unfold W3
    rw [arg_of hostOps0_2_writes _ main_v31 (by decide)]
  have hquot := quotient_read (W3 m c) b r q hx hn hw
  refine (score_read (W4 m c) b r q).trans ?_
  rw [show (W4 m c (Proc.devRef .tc main_v46) : IVec S1x512x512 1) (ix3 0 r q) = _ from diag_read (W3 m c) r q]
  unfold scores score
  by_cases h : r = q
  · rw [if_pos h, if_pos h]
    exact low_read (W3 m c)
  · rw [if_neg h, if_neg h]
    exact hquot

/-- The loop is entered with the scores, every row available and the count zero. -/
theorem entry (c : Dev nD) : RefAt (scores m c) 0 (entryContents preI m c) where
  score b r q := (carried_read (W5 m c) b r q).trans (score_entry m c b r q)
  count := count_read (W5 m c)
  left b q := by
    rw [if_pos (show q ∈ avail (scores m c b) 0 from Finset.mem_univ q)]
    exact left_read (W5 m c) b q
  fst b t ht := absurd ht (Nat.not_lt_zero _)
  snd b t ht := absurd ht (Nat.not_lt_zero _)

end Cert.ReferenceIdeal.Value
end
-- ==== Proof.RGather.lean ====
/- The reference's gathers: rows of each batch taken at a table of row numbers. -/
module

public import proofs.«01_k».proof.Proof.RScore
public import Idealize.ShloMosaic.Lib.StableHlo.Predicate
public import Idealize.ShloMosaic.Lib.SortFacts
public import Idealize.ShloMosaic.Lib.Pipeline.ValueKit
public import proofs.«01_k».proof.Proof.Ranks

@[expose] public section

set_option maxRecDepth 16384

noncomputable section

namespace Cert.ReferenceIdeal.Value

open Cert.ReferenceIdeal.Gen
open Idealize.ShloMosaic Idealize.ShloMosaic.TcCoe Idealize.ShloMosaic.Tactic Idealize.ShloMosaic.StableHlo
open Cert.Greedy

/-- The dimension numbers of taking `n` rows out of each batch. -/
abbrev takeDims (n : ℕ) (wf : GatherDims.WF S16x512x2048 ⟨3, ![16, n, 1]⟩ ⟨3, ![16, n, 2048]⟩ [2] [1] [0] [1] [0] 2 ![1, 1, 2048]) :
    GatherDims S16x512x2048 ⟨3, ![16, n, 1]⟩ ⟨3, ![16, n, 2048]⟩ where
  offsetDims := [2]
  collapsedSliceDims := [1]
  operandBatchingDims := [0]
  startIndicesBatchingDims := [0]
  startIndexMap := [1]
  indexVectorDim := 2
  sliceSizes := ![1, 1, 2048]
  wf := wf

/-- Where the table holds a row number of the batch, the row taken is that row. -/
theorem take_read {α : Type} (n : ℕ) (wf : GatherDims.WF S16x512x2048 ⟨3, ![16, n, 1]⟩ ⟨3, ![16, n, 2048]⟩ [2] [1] [0] [1] [0] 2 ![1, 1, 2048])
    (x : S16x512x2048.Idx → α) (idx : IVec ⟨3, ![16, n, 1]⟩ 32) (b : Fin 16) (r : Fin n) (d : Fin 2048) (i : Fin 512)
    (h : idx (ix3 b r 0) = BitVec.ofNat 32 i.val) : Host.gather (takeDims n wf) x idx (ix3 b r d) = x (ix3 b i d) := by
  unfold Host.gather
  refine congrArg x (funext fun a => Fin.ext ?_)
  show (takeDims n wf).start (ix3 b r d) idx a + (takeDims n wf).batchCoord (ix3 b r d) a + (takeDims n wf).offCoord (ix3 b r d) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (takeDims n wf).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims n wf).startIndexMap from List.mem_singleton.mpr rfl)]
    have hsi : (takeDims n wf).siIdx (ix3 b r d) ⟨List.idxOf (1 : Fin 3) (takeDims n wf).startIndexMap,
        List.idxOf_lt_length_iff.2 (List.mem_singleton.mpr rfl)⟩ = ix3 b r 0 := by
      funext k; refine Fin.ext ?_
      match k with
      | ⟨0, _⟩ => rfl
      | ⟨1, _⟩ => rfl
      | ⟨2, _⟩ => rfl
    have hi := i.isLt
    refine Eq.trans (congrArg (fun k => min (idx k).toInt.toNat (512 - 1)) hsi) ?_
    show min (idx (ix3 b r 0)).toInt.toNat (512 - 1) = i.val
    rw [h, StableHlo.Predicate.toInt_ofNat_small _ (by omega)]
    omega
  · rw [GatherDims.batchCoord_eq_zero _ _ _ (fun h => absurd (List.mem_singleton.mp h) (by decide))]
    unfold GatherDims.start
    rw [dif_neg (fun h => absurd (List.mem_singleton.mp h) (by decide))]
    simp only [Nat.zero_add]
    unfold GatherDims.offCoord
    rw [dif_pos ((GatherDims.mem_sKept _ _).mpr ⟨fun h => absurd (List.mem_singleton.mp h) (by decide), fun h => absurd (List.mem_singleton.mp h) (by decide)⟩)]
    rfl

/-- A table of row numbers with negative ones counted from the end. -/
def wrap128 (i : IVec S16x128 32) : IVec S16x128x1 32 :=
  select (cmpi .slt (broadcastInDim S16x128x1 ![0, 1] bcast_S16x128_S16x128x1_0_1 i) (broadcastInDim S16x128x1 ![] bcast_S_S16x128x1 (constantI S_ 32 0#32)))
    (addi (broadcastInDim S16x128x1 ![0, 1] bcast_S16x128_S16x128x1_0_1 i) (broadcastInDim S16x128x1 ![] bcast_S_S16x128x1 (constantI S_ 32 512#32)))
    (broadcastInDim S16x128x1 ![0, 1] bcast_S16x128_S16x128x1_0_1 i)
def wrap256 (i : IVec S16x256 32) : IVec S16x256x1 32 :=
  select (cmpi .slt (broadcastInDim S16x256x1 ![0, 1] bcast_S16x256_S16x256x1_0_1 i) (broadcastInDim S16x256x1 ![] bcast_S_S16x256x1 (constantI S_ 32 0#32)))
    (addi (broadcastInDim S16x256x1 ![0, 1] bcast_S16x256_S16x256x1_0_1 i) (broadcastInDim S16x256x1 ![] bcast_S_S16x256x1 (constantI S_ 32 512#32)))
    (broadcastInDim S16x256x1 ![0, 1] bcast_S16x256_S16x256x1_0_1 i)

theorem not_slt (i : Fin 512) : IntOp.cmpi .slt (BitVec.ofNat 32 i.val) 0#32 = 0#1 := by
  revert i; decide +kernel

theorem wrap128_read (i : IVec S16x128 32) (b : Fin 16) (r : Fin 128) (k : Fin 512) (h : i (ix2 b r) = BitVec.ofNat 32 k.val) :
    wrap128 i (ix3 b r 0) = BitVec.ofNat 32 k.val := by
  pointwise [wrap128]
  rw [h, not_slt]
  rfl
theorem wrap256_read (i : IVec S16x256 32) (b : Fin 16) (r : Fin 256) (k : Fin 512) (h : i (ix2 b r) = BitVec.ofNat 32 k.val) :
    wrap256 i (ix3 b r 0) = BitVec.ofNat 32 k.val := by
  pointwise [wrap256]
  rw [h, not_slt]
  rfl

/-- The rows taken at a table. -/
def take128 (x : Vec Ideal S16x512x2048 .f32) (i : IVec S16x128 32) : Vec Ideal S16x128x2048 .f32 :=
  Host.gather gather_S16x512x2048_S16x128x1_S16x128x2048_2_1_0_0_1_2_112048 x (wrap128 i)
def take256 (x : Vec Ideal S16x512x2048 .f32) (i : IVec S16x256 32) : Vec Ideal S16x256x2048 .f32 :=
  Host.gather gather_S16x512x2048_S16x256x1_S16x256x2048_2_1_0_0_1_2_112048 x (wrap256 i)

theorem take128_read (x : Vec Ideal S16x512x2048 .f32) (i : IVec S16x128 32) (b : Fin 16) (r : Fin 128) (d : Fin 2048) (k : Fin 512)
    (h : i (ix2 b r) = BitVec.ofNat 32 k.val) : take128 x i (ix3 b r d) = x (ix3 b k d) :=
  take_read 128 gather_S16x512x2048_S16x128x1_S16x128x2048_2_1_0_0_1_2_112048_wf x _ b r d k (wrap128_read i b r k h)
theorem take256_read (x : Vec Ideal S16x512x2048 .f32) (i : IVec S16x256 32) (b : Fin 16) (r : Fin 256) (d : Fin 2048) (k : Fin 512)
    (h : i (ix2 b r) = BitVec.ofNat 32 k.val) : take256 x i (ix3 b r d) = x (ix3 b k d) :=
  take_read 256 gather_S16x512x2048_S16x256x1_S16x256x2048_2_1_0_0_1_2_112048_wf x _ b r d k (wrap256_read i b r k h)

/-! ## The sort that orders the rows left -/

/-- What is sorted: a row's number where its mark is set, and 512 elsewhere. -/
def marked (a : IVec S16x512 1) : IVec S16x512 32 :=
  select a (broadcastInDim S16x512 ![0, 1] bcast_S1x512_S16x512_0_1 (broadcastInDim S1x512 ![1] bcast_S512_S1x512_1 (iotaInDim S512 32 0)))
    (broadcastInDim S16x512 ![] bcast_S_S16x512 (id (constantI S_ 32 512#32)))

theorem marked_read (a : IVec S16x512 1) (A : Finset (Fin 512)) (b : Fin 16) (q : Fin 512) (h : a (ix2 b q) = if q ∈ A then 1#1 else 0#1) :
    marked a (ix2 b q) = BitVec.ofNat 32 (key A q) := by
  unfold marked
  simp only [id]
  pointwise []
  rw [h]
  unfold key
  by_cases hq : q ∈ A
  · rw [if_pos hq, if_pos hq]; rfl
  · rw [if_neg hq, if_neg hq]; rfl

theorem key_lt (A : Finset (Fin 512)) (q : Fin 512) : key A q < 2 ^ 31 := by
  unfold key
  have := q.isLt
  split <;> omega

theorem sort_read (x : IVec S16x512 32) (A : Finset (Fin 512)) (hA : 256 ≤ A.card) (b : Fin 16)
    (h : ∀ q, x (ix2 b q) = BitVec.ofNat 32 (key A q)) (r : Fin 256) :
    Host.sort S16x512 1 comparator_i32_d1 x (ix2 b (r.castLE (by norm_num) : Fin 512)) = BitVec.ofNat 32 (nth A hA r).val := by
  let B : Fin 512 → Fin 512 → Bool := fun k k' => comparator_i32_d1 (x (ix2 b k)) (x (ix2 b k')) == 1#1
  have hB : ∀ k k', B k k' = decide (key A k < key A k') := fun k k' => by
    show (comparator_i32_d1 (x (ix2 b k)) (x (ix2 b k')) == 1#1) = _
    rw [h, h]
    unfold comparator_i32_d1
    show (BitVec.ofBool (BitVec.slt _ _) == 1#1) = _
    rw [Bool.eq_iff_iff, beq_iff_eq, decide_eq_true_iff]
    exact StableHlo.Predicate.slt_ofNat_iff _ _ (key_lt A k) (key_lt A k')
  have hal : ∀ k : Fin 512, (ix2 b (r.castLE (by norm_num) : Fin 512) : S16x512.Idx).along (1 : Fin 2) k = ix2 b k := fun k => by
    blk_ext [Shape.Idx.along]
    · exact congrArg Fin.val (Function.update_of_ne (show (0 : Fin 2) ≠ 1 by decide) _ _)
    · exact congrArg Fin.val (Function.update_self _ _ _)
  have e : Host.sort S16x512 1 comparator_i32_d1 x (ix2 b (r.castLE (by norm_num) : Fin 512)) = x (ix2 b (sortedFrom B (r.castLE (by norm_num)))) := by
    unfold Host.sort
    rw [dif_pos (show 1 < S16x512.rank by decide)]
    refine congrArg x ((hal _).trans (congrArg (ix2 b) ?_))
    refine congrArg (fun R => sortedFrom R (r.castLE (by norm_num) : Fin 512)) (funext fun k => funext fun k' => ?_)
    exact congrArg₂ (fun i j => comparator_i32_d1 (x i) (x j) == 1#1) (hal k) (hal k')
  rw [e, h]
  refine congrArg (BitVec.ofNat 32) (sorted_key A hA (sortedFrom B) ⟨sortedFrom_injective B, sortedFrom_surjective B⟩ (fun i j hij => ?_) r)
  have := sortedFrom_noInversion B B (fun a c hac => by rw [hB] at hac ⊢; simp at hac ⊢; omega) (fun _ _ hac => hac)
    (fun a c d h1 h2 => by rw [hB] at h1 h2 ⊢; simp at h1 h2 ⊢; omega) i j hij
  rw [hB] at this
  simp at this
  exact this

/-- The numbers of the rows left, in order. -/
def remaining (a : IVec S16x512 1) : IVec S16x256 32 :=
  extractStridedSlice S16x256 ![0, 0] (Host.sort S16x512 1 comparator_i32_d1 (marked a)) slices_S16x512_S16x256_0_0

theorem remaining_read (a : IVec S16x512 1) (A : Finset (Fin 512)) (hA : 256 ≤ A.card) (b : Fin 16)
    (h : ∀ q, a (ix2 b q) = if q ∈ A then 1#1 else 0#1) (r : Fin 256) :
    remaining a (ix2 b r) = BitVec.ofNat 32 (nth A hA r).val := by
  refine Eq.trans ?_ (sort_read (marked a) A hA b (fun q => marked_read a A b q (h q)) r)
  unfold remaining
  generalize Host.sort S16x512 1 comparator_i32_d1 (marked a) = u
  pointwise []
  try rfl

end Cert.ReferenceIdeal.Value
end
-- ==== Proof.RValue.lean ====
/- The reference's result, read at an index. -/
module

public import proofs.«01_k».proof.Proof.RGather
public import proofs.«01_k».proof.Proof.Merge

@[expose] public section

set_option maxRecDepth 16384

noncomputable section

namespace Cert.ReferenceIdeal.Value

open Cert.ReferenceIdeal.Gen
open Idealize.ShloMosaic Idealize.ShloMosaic.TcCoe Idealize.ShloMosaic.Tactic Idealize.ShloMosaic.StableHlo
open Cert.Greedy

/-- The hidden units of every pair, before their activation. -/
def hiddenAll (u v : FVec Ideal S16x128x2048 .f32) (a5 : FVec Ideal S4096x2048 .f32) (a6 : FVec Ideal S2048 .f32) : FVec Ideal S16x128x2048 .f32 :=
  addf (Host.dotGeneral dot_S16x128x4096_S4096x2048_S16x128x2048_2_0_01_1_n_n none
      (concatenate S16x128x4096 2 [⟨S16x128x2048, u⟩, ⟨S16x128x2048, v⟩] concatenates_S16x128x2048_S16x128x2048_S16x128x4096_d2) a5)
    (broadcastInDim S16x128x2048 ![0, 1, 2] bcast_S1x1x2048_S16x128x2048_0_1_2 (broadcastInDim S1x1x2048 ![2] bcast_S2048_S1x1x2048_2 a6))

/-- The perceptron's outputs, from its hidden units. -/
def outputAll (h : FVec Ideal S16x128x2048 .f32) (a7 : FVec Ideal S2048x2048 .f32) (a8 : FVec Ideal S2048 .f32) : FVec Ideal S16x128x2048 .f32 :=
  addf (Host.dotGeneral dot_S16x128x2048_S2048x2048_S16x128x2048_2_0_01_1_n_n none
      (mulf (mulf (broadcastInDim S16x128x2048 ![] bcast_S_S16x128x2048 (constant S_ .f32 0x3F000000#32)) h)
        (Host.erfc (mulf (Host.negf h) (broadcastInDim S16x128x2048 ![] bcast_S_S16x128x2048 (constant S_ .f32 0x3F3504F3#32))))) a7)
    (broadcastInDim S16x128x2048 ![0, 1, 2] bcast_S1x1x2048_S16x128x2048_0_1_2 (broadcastInDim S1x1x2048 ![2] bcast_S2048_S1x1x2048_2 a8))

theorem result_parts (V : Valuation τ sig (Elt Ideal)) :
    out_main_v88 V = concatenate S16x384x2048 1
      [⟨S16x128x2048, outputAll (hiddenAll (take128 (V (Proc.devRef .tc main_arg0)) (V (Proc.devRef .tc main_v60_4)))
          (take128 (V (Proc.devRef .tc main_arg0)) (V (Proc.devRef .tc main_v60_5)))
          (V (Proc.devRef .tc main_arg5)) (V (Proc.devRef .tc main_arg6))) (V (Proc.devRef .tc main_arg7)) (V (Proc.devRef .tc main_arg8))⟩,
        ⟨S16x256x2048, take256 (V (Proc.devRef .tc main_arg0)) (remaining (V (Proc.devRef .tc main_v60_3)))⟩]
      concatenates_S16x128x2048_S16x256x2048_S16x384x2048_d1 := rfl

theorem sum_halves (f : Fin 4096 → EReal) :
    (∑ k, f k) = (∑ x : Fin 2048, f ⟨x.val, by omega⟩) + ∑ x : Fin 2048, f ⟨2048 + x.val, by omega⟩ :=
  Fin.sum_univ_add (a := 2048) (b := 2048) f

theorem hidden_read (u v : FVec Ideal S16x128x2048 .f32) (a5 : FVec Ideal S4096x2048 .f32) (a6 : FVec Ideal S2048 .f32) (b : Fin 16) (p : Fin 128)
    (e : Fin 2048) (x : Fin 512 → Fin 2048 → EReal) (q : Fin 512 × Fin 512) (hu : ∀ k, u (ix3 b p k) = x q.1 k) (hv : ∀ k, v (ix3 b p k) = x q.2 k) :
    hiddenAll u v a5 a6 (ix3 b p e) = hidden (sideBySide x q) (fun k e => a5 (ix2 k e)) (fun e => a6 (ix1 e)) e := by
  unfold hiddenAll
  pointwise []
  unfold Greedy.hidden
  rw [sum_halves]
  refine congrArg₂ (fun s t : EReal => s + t) (congrArg₂ (fun s t : EReal => s + t) (Finset.sum_congr rfl fun k _ => ?_) (Finset.sum_congr rfl fun k _ => ?_)) rfl
  · refine congrArg₂ (fun s t : EReal => s * t) ((hu k).trans ?_) rfl
    unfold sideBySide
    rw [dif_pos (show (⟨k.val, by omega⟩ : Fin 4096).val < 2048 from k.isLt)]
  · refine congrArg₂ (fun s t : EReal => s * t) ((hv k).trans ?_) rfl
    unfold sideBySide
    rw [dif_neg (show ¬ (⟨2048 + k.val, by omega⟩ : Fin 4096).val < 2048 from by show ¬ 2048 + k.val < 2048; omega)]
    exact congrArg (x q.2) (Fin.ext (show k.val = 2048 + k.val - 2048 by omega))

theorem output_read (h : FVec Ideal S16x128x2048 .f32) (a7 : FVec Ideal S2048x2048 .f32) (a8 : FVec Ideal S2048 .f32) (b : Fin 16) (p : Fin 128) (d : Fin 2048) :
    outputAll h a7 a8 (ix3 b p d) = (∑ e : Fin 2048, act (h (ix3 b p e)) * (a7 (ix2 e d) : EReal)) + (a8 (ix1 d) : EReal) := by
  unfold outputAll
  pointwise []
  simp only [← act_erfc]
  rfl

theorem join_read (u : Vec Ideal S16x128x2048 .f32) (v : Vec Ideal S16x256x2048 .f32) (b : Fin 16) (p : Fin 384) (d : Fin 2048) :
    concatenate S16x384x2048 1 [⟨S16x128x2048, u⟩, ⟨S16x256x2048, v⟩] concatenates_S16x128x2048_S16x256x2048_S16x384x2048_d1 (ix3 b p d)
      = if h : p.val < 128 then u (ix3 b ⟨p.val, h⟩ d) else v (ix3 b (⟨p.val - 128, by omega⟩ : Fin 256) d) := by
  pointwise []

/-! ## The result -/

variable (m : (ℓ : Loc nD τ sig) → Buf (Elt Ideal) ℓ) (c : Dev nD)

def w1 (k : Fin 4096) (e : Fin 2048) : EReal := (m ((c : Thread nD τ).loc main_arg5) : Vec Ideal S4096x2048 .f32) (ix2 k e)
def b1 (e : Fin 2048) : EReal := (m ((c : Thread nD τ).loc main_arg6) : Vec Ideal S2048 .f32) (ix1 e)
def w2 (k : Fin 2048) (e : Fin 2048) : EReal := (m ((c : Thread nD τ).loc main_arg7) : Vec Ideal S2048x2048 .f32) (ix2 k e)
def b2 (e : Fin 2048) : EReal := (m ((c : Thread nD τ).loc main_arg8) : Vec Ideal S2048 .f32) (ix1 e)

/-- Where the loop leaves the picks of `sc`, the result is the merged pairs and then the rows left, in order. -/
theorem result_read (V : Valuation τ sig (Elt Ideal)) (sc : Fin 16 → Fin 512 → Fin 512 → EReal) (h : RefAt sc 128 V)
    (b : Fin 16) (p : Fin 384) (d : Fin 2048) {x : Fin 512 → Fin 2048 → EReal}
    (hx : ∀ r d, (V (Proc.devRef .tc main_arg0) : Vec Ideal S16x512x2048 .f32) (ix3 b r d) = x r d) :
    (out_main_v88 V : Vec Ideal S16x384x2048 .f32) (ix3 b p d) =
      if h : p.val < 128 then mlp (sideBySide x (pair (sc b) p.val)) (fun k e => (V (Proc.devRef .tc main_arg5) : Vec Ideal S4096x2048 .f32) (ix2 k e))
        (fun e => (V (Proc.devRef .tc main_arg6) : Vec Ideal S2048 .f32) (ix1 e)) (fun k e => (V (Proc.devRef .tc main_arg7) : Vec Ideal S2048x2048 .f32) (ix2 k e))
        (fun e => (V (Proc.devRef .tc main_arg8) : Vec Ideal S2048 .f32) (ix1 e)) d
      else x (nth (avail (sc b) 128) (enough _) ⟨p.val - 128, by omega⟩) d := by
  rw [result_parts, join_read]
  by_cases hp : p.val < 128
  · rw [dif_pos hp, dif_pos hp, output_read]
    unfold mlp
    refine congrArg₂ (fun s t : EReal => s + t) (Finset.sum_congr rfl fun e _ => congrArg₂ (fun s t : EReal => s * t) (congrArg act ?_) rfl) rfl
    exact hidden_read _ _ _ _ b ⟨p.val, hp⟩ e x _ (fun k => (take128_read _ _ b _ k _ (h.fst b ⟨p.val, hp⟩ hp)).trans (hx _ _))
      (fun k => (take128_read _ _ b _ k _ (h.snd b ⟨p.val, hp⟩ hp)).trans (hx _ _))
  · rw [dif_neg hp, dif_neg hp]
    exact (take256_read _ _ b _ d _ (remaining_read _ (avail (sc b) 128) (enough _) b (h.left b) _)).trans (hx _ _)

/-- The reference's result from its launch. -/
theorem reference_result (b : Fin 16) (p : Fin 384) (d : Fin 2048) :
    (out_main_v88 (STEP^[128] (entryContents preI m c)) : Vec Ideal S16x384x2048 .f32) (ix3 b p d) =
      if h : p.val < 128 then mlp (sideBySide (rows m c b) (pair (scores m c b) p.val)) (w1 m c) (b1 m c) (w2 m c) (b2 m c) d
      else rows m c b (nth (avail (scores m c b) 128) (enough _) ⟨p.val - 128, by omega⟩) d := by
  have h0 := result_read _ (scores m c) (RefAt.trips (good_scores m c) (entry m c) 128 le_rfl) b p d (x := rows m c b)
    fun r d => congrFun (iter_main_arg0 m c 128) _
  rw [h0, iter_main_arg5 m c 128, iter_main_arg6 m c 128, iter_main_arg7 m c 128, iter_main_arg8 m c 128]
  rfl

end Cert.ReferenceIdeal.Value
end
-- ==== Proof.Value.lean ====
/- The kernel's result is the reference's. Both results are known at an index, over the greedy selection from the same scores;
   what is left is that the two programs make the same scores, weights and biases of the same arguments. The importance of the
   rows is one chain of operations in both, written here once. -/
module

public import proofs.«01_k».proof.Proof.KCall2
public import proofs.«01_k».proof.Proof.RValue

@[expose] public section

set_option maxRecDepth 16384

noncomputable section

namespace Cert.Value

open Idealize.ShloMosaic Idealize.ShloMosaic.Tactic Idealize.ShloMosaic.TcCoe Idealize.ShloMosaic.StableHlo

/-- The two programs are launched on the same arguments, on core `c`. -/
abbrev Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)

section Chain
open Cert.KernelIdeal Cert.KernelIdeal.Gen

/-- The first layer of the gate before its activation. -/
def lift (a0 : FVec Ideal S16x512x2048 .f32) (a1 : FVec Ideal S2048x1024 .f32) (a2 : FVec Ideal S1024 .f32) : FVec Ideal S16x512x1024 .f32 :=
  addf (Host.dotGeneral dot_S16x512x2048_S2048x1024_S16x512x1024_2_0_01_1_n_n none a0 a1)
    (broadcastInDim S16x512x1024 ![0, 1, 2] bcast_S1x1x1024_S16x512x1024_0_1_2 (broadcastInDim S1x1x1024 ![2] bcast_S1024_S1x1x1024_2 a2))

/-- The activation of that layer. -/
def bend (x : FVec Ideal S16x512x1024 .f32) : FVec Ideal S16x512x1024 .f32 :=
  mulf (mulf (broadcastInDim S16x512x1024 ![] bcast_S_S16x512x1024 (constant S_ .f32 0x3F000000#32)) x)
    (Host.erfc (mulf (Host.negf x) (broadcastInDim S16x512x1024 ![] bcast_S_S16x512x1024 (constant S_ .f32 0x3F3504F3#32))))

/-- The second layer, squeezed between nought and one. -/
def squeeze (x : FVec Ideal S16x512x1024 .f32) (a3 : FVec Ideal S1024x1 .f32) (a4 : FVec Ideal S1 .f32) : FVec Ideal S16x512x1 .f32 :=
  Host.divf (broadcastInDim S16x512x1 ![] bcast_S_S16x512x1 (constant S_ .f32 0x3F800000#32))
    (addf (broadcastInDim S16x512x1 ![] bcast_S_S16x512x1 (constant S_ .f32 0x3F800000#32))
      (Host.exp (Host.negf (addf (Host.dotGeneral dot_S16x512x1024_S1024x1_S16x512x1_2_0_01_1_n_n none x a3)
        (broadcastInDim S16x512x1 ![0, 1, 2] bcast_S1x1x1_S16x512x1_0_1_2 (broadcastInDim S1x1x1 ![2] bcast_S1_S1x1x1_2 a4))))))

/-- The least gate of each batch. -/
def least (g : FVec Ideal S16x512x1 .f32) : FVec Ideal S16x1x1 .f32 :=
  broadcastInDim S16x1x1 ![0] bcast_S16_S16x1x1_0 (Host.reduce FloatOps.minimumf g (constant S_ .f32 0x7F800000#32) reducesTo_S16x512x1_S16_d1_2 h_S_)

/-- The greatest gate of each batch. -/
def greatest (g : FVec Ideal S16x512x1 .f32) : FVec Ideal S16x1x1 .f32 :=
  broadcastInDim S16x1x1 ![0] bcast_S16_S16x1x1_0 (Host.reduce FloatOps.maximumf g (constant S_ .f32 0xFF800000#32) reducesTo_S16x512x1_S16_d1_2 h_S_)

/-- The gates stretched over the whole range, batch by batch, where a batch's gates are not all alike. -/
def stretch (g : FVec Ideal S16x512x1 .f32) : FVec Ideal S16x512x1 .f32 :=
  select (broadcastInDim S16x512x1 ![0, 1, 2] bcast_S16x1x1_S16x512x1_0_1_2 (cmpf .ogt (greatest g) (least g)))
    (Host.divf (subf g (broadcastInDim S16x512x1 ![0, 1, 2] bcast_S16x1x1_S16x512x1_0_1_2 (least g)))
      (broadcastInDim S16x512x1 ![0, 1, 2] bcast_S16x1x1_S16x512x1_0_1_2 (subf (greatest g) (least g))))
    g

/-- The importance of the rows, out of the first five arguments. -/
def importance (a0 : FVec Ideal S16x512x2048 .f32) (a1 : FVec Ideal S2048x1024 .f32) (a2 : FVec Ideal S1024 .f32) (a3 : FVec Ideal S1024x1 .f32)
    (a4 : FVec Ideal S1 .f32) : FVec Ideal S16x512x1 .f32 :=
  stretch (squeeze (bend (lift a0 a1 a2)) a3 a4)

/-- The kernel's importance of the rows. -/
theorem kernel_importance (V : Valuation τ sig (Elt Ideal)) :
    (after hostOps0_1 (after hostOps0 V) (Proc.devRef .tc main_v31) : FVec Ideal S16x512x1 .f32)
      = importance (V (Proc.devRef .tc main_arg0)) (V (Proc.devRef .tc main_arg1)) (V (Proc.devRef .tc main_arg2)) (V (Proc.devRef .tc main_arg3)) (V (Proc.devRef .tc main_arg4)) := by
  after_reads_simp
  simp -implicitDefEqProofs only [StableHlo.TRef.toBuf, StableHlo.TRef.ofBuf, cast_eq]
  unfold importance stretch greatest least squeeze bend lift
  rfl

end Chain

section Chain
open Cert.ReferenceIdeal Cert.ReferenceIdeal.Gen

/-- The reference's importance of the rows. -/
theorem reference_importance (V : Valuation τ sig (Elt Ideal)) :
    (after hostOps0_1 (after hostOps0 V) (Proc.devRef .tc main_v31) : FVec Ideal S16x512x1 .f32)
      = importance (V (Proc.devRef .tc main_arg0)) (V (Proc.devRef .tc main_arg1)) (V (Proc.devRef .tc main_arg2)) (V (Proc.devRef .tc main_arg3)) (V (Proc.devRef .tc main_arg4)) := by
  after_reads_simp
  simp -implicitDefEqProofs only [StableHlo.TRef.toBuf, StableHlo.TRef.ofBuf, cast_eq]
  unfold importance stretch greatest least squeeze bend lift
  rfl

end Chain

/-- The two programs make the same importance. -/
theorem importance_entry (c : Dev Cert.KernelIdeal.nD) (h : Same m m' c) :
    (Cert.KernelIdeal.Gen.V2 m c (Proc.devRef .tc Cert.KernelIdeal.main_v31) : Vec Ideal Cert.KernelIdeal.S16x512x1 .f32)
      = Cert.ReferenceIdeal.Value.W2 m' c (Proc.devRef .tc Cert.ReferenceIdeal.main_v31) := by
  refine (kernel_importance _).trans (Eq.trans ?_ (reference_importance _).symm)
  exact congr (congr (congr (congr (congrArg importance h.1.symm) h.2.1.symm) h.2.2.1.symm) h.2.2.2.1.symm) h.2.2.2.2.1.symm

/-- The two programs have the same rows. -/
theorem rows_eq (c : Dev Cert.KernelIdeal.nD) (h : Same m m' c) : Cert.ReferenceIdeal.Value.rows m' c = Cert.KernelIdeal.Call.rows m c := by
  funext b r d
  exact congrFun h.1 _

/-- The two programs weigh the rows alike. -/
theorem weight_eq (c : Dev Cert.KernelIdeal.nD) (h : Same m m' c) : Cert.ReferenceIdeal.Value.weight m' c = Cert.KernelIdeal.Call.weight m c := by
  funext b r
  exact congrArg (fun z : EReal => max z (Ideal.ofBits .f32 0x3DCCCCCD#32)) (congrFun (importance_entry m m' c h) _).symm

/-- The two programs score the pairs of rows alike. -/
theorem scores_eq (c : Dev Cert.KernelIdeal.nD) (h : Same m m' c) : Cert.ReferenceIdeal.Value.scores m' c = Cert.KernelIdeal.Call.scores m c := by
  funext b
  unfold Cert.ReferenceIdeal.Value.scores Cert.KernelIdeal.Call.scores
  rw [rows_eq m m' c h, weight_eq m m' c h]

/-- The perceptron's first weights are the same. -/
theorem w1_eq (c : Dev Cert.KernelIdeal.nD) (h : Same m m' c) : Cert.ReferenceIdeal.Value.w1 m' c = Cert.KernelIdeal.Call.w1 m c := by
  funext k e
  exact congrFun h.2.2.2.2.2.1 _
/-- The perceptron's first biases are the same. -/
theorem b1_eq (c : Dev Cert.KernelIdeal.nD) (h : Same m m' c) : Cert.ReferenceIdeal.Value.b1 m' c = Cert.KernelIdeal.Call.b1 m c := by
  funext e
  exact congrFun h.2.2.2.2.2.2.1 _
/-- The perceptron's second weights are the same. -/
theorem w2_eq (c : Dev Cert.KernelIdeal.nD) (h : Same m m' c) : Cert.ReferenceIdeal.Value.w2 m' c = Cert.KernelIdeal.Call.w2 m c := by
  funext k e
  exact congrFun h.2.2.2.2.2.2.2.1 _
/-- The perceptron's second biases are the same. -/
theorem b2_eq (c : Dev Cert.KernelIdeal.nD) (h : Same m m' c) : Cert.ReferenceIdeal.Value.b2 m' c = Cert.KernelIdeal.Call.b2 m c := by
  funext e
  exact congrFun h.2.2.2.2.2.2.2.2 _

/-- On the same arguments the kernel's result is the reference's. -/
theorem result_eq (c : Dev Cert.KernelIdeal.nD) (h : Same m m' c) :
    Cert.KernelIdeal.Call.B11 m c (Proc.devRef .tc Cert.KernelIdeal.main_v54)
      = Cert.ReferenceIdeal.Value.out_main_v88 (Cert.ReferenceIdeal.Value.STEP^[128] (entryContents Cert.ReferenceIdeal.Value.preI m' c)) := by
  funext y
  have ey : y = (ix3 (y 0) (y 1) (y 2) : Cert.KernelIdeal.S16x384x2048.Idx) := by blk_ext []
  rw [ey]
  refine (Cert.KernelIdeal.Call.kernel_result m c (y 0) (y 1) (y 2)).trans (Eq.trans ?_ (Cert.ReferenceIdeal.Value.reference_result m' c (y 0) (y 1) (y 2)).symm)
  unfold Cert.KernelIdeal.Call.merged
  rw [rows_eq m m' c h, scores_eq m m' c h, w1_eq m m' c h, b1_eq m m' c h, w2_eq m m' c h, b2_eq m m' c h]

end Cert.Value
end
-- ==== Proof.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.KScore
public import proofs.«01_k».proof.Proof.Value
public import Idealize.ShloMosaic.Lib.Quiescent
public import Idealize.ShloMosaic.Init

@[expose] public section

set_option maxRecDepth 16384

noncomputable section

namespace Cert.Proof

open Idealize.ShloMosaic Idealize.ShloMosaic.TcCoe
open Idealize.SL.Sem

theorem frame_kernel : @quiescent_KernelIdeal Cert.KernelIdeal.Gen.facts := fun m g _ =>
  (θ_run Cert.KernelIdeal.defs _ _).mono (fun _ h => ⟨fun c => (h.1 c).2, h.2⟩)
    (Cert.KernelIdeal.Call.run m g fun c b s => Cert.KernelIdeal.Call.good_rowScores m c b s)

theorem frame_reference : @quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run m g)

theorem algebraic : @algebraic_KernelIdeal_ReferenceIdeal Cert.KernelIdeal.Gen.facts Cert.ReferenceIdeal.Gen.facts := fun m g m' g' _ hargs =>
  ⟨fun c => Cert.KernelIdeal.Call.B11 m c (Proc.devRef .tc Cert.KernelIdeal.main_v54),
    (θ_run Cert.KernelIdeal.defs _ _).mono (fun _ h => h.1)
      (Cert.KernelIdeal.Call.run m g fun c b s => Cert.KernelIdeal.Call.good_rowScores m c b s),
    (θ_run Cert.ReferenceIdeal.defs _ _).mono (fun _ h c => ⟨(h c).1.trans (Cert.Value.result_eq m m' c (hargs c)).symm, (h c).2⟩)
      (Cert.ReferenceIdeal.Value.run m' g')⟩

theorem claim : Cert.Claim :=
  ⟨Cert.KernelIdeal.Gen.facts, Cert.ReferenceIdeal.Gen.facts, frame_kernel, frame_reference, algebraic⟩

end Cert.Proof
end
